-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S16384 : Shape := ⟨1, ![16384]⟩
abbrev S131072x2x128 : Shape := ⟨3, ![131072, 2, 128]⟩
abbrev S16384x1 : Shape := ⟨2, ![16384, 1]⟩
abbrev S_ : Shape := ⟨0, ![]⟩
abbrev S8 : Shape := ⟨1, ![8]⟩
abbrev S1x8 : Shape := ⟨2, ![1, 8]⟩
abbrev S16384x8 : Shape := ⟨2, ![16384, 8]⟩
abbrev S131072 : Shape := ⟨1, ![131072]⟩
abbrev S512 : Shape := ⟨1, ![512]⟩
abbrev S4096 : Shape := ⟨1, ![4096]⟩
abbrev S128x2x128 : Shape := ⟨3, ![128, 2, 128]⟩
abbrev S16x2x64x2x128 : Shape := ⟨5, ![16, 2, 64, 2, 128]⟩
abbrev S128 : Shape := ⟨1, ![128]⟩
abbrev S16 : Shape := ⟨1, ![16]⟩
abbrev S1 : Shape := ⟨1, ![1]⟩
abbrev S1x1x8x2x128 : Shape := ⟨5, ![1, 1, 8, 2, 128]⟩
abbrev S8x2x128 : Shape := ⟨3, ![8, 2, 128]⟩
abbrev S1x1x64x2x128 : Shape := ⟨5, ![1, 1, 64, 2, 128]⟩
abbrev S64x2x128 : Shape := ⟨3, ![64, 2, 128]⟩

abbrev nBuf : Table → Nat
  | .hbm => 15
  | .shared => 1
  | .local .scVector .vmem => 4
  | _ => 0

abbrev bufTy : (tb : Table) → Fin (nBuf tb) → BufTy
  | .hbm, ⟨0, _⟩ => ⟨S4x4096x2048, .f32⟩
  | .hbm, ⟨1, _⟩ => ⟨S16384, .i32⟩
  | .hbm, ⟨2, _⟩ => ⟨S131072x2x128, .f32⟩
  | .hbm, ⟨3, _⟩ => ⟨S16384x1, .i32⟩
  | .hbm, ⟨4, _⟩ => ⟨S_, .i32⟩
  | .hbm, ⟨5, _⟩ => ⟨S16384x1, .i32⟩
  | .hbm, ⟨6, _⟩ => ⟨S16384x1, .i32⟩
  | .hbm, ⟨7, _⟩ => ⟨S8, .i32⟩
  | .hbm, ⟨8, _⟩ => ⟨S1x8, .i32⟩
  | .hbm, ⟨9, _⟩ => ⟨S16384x8, .i32⟩
  | .hbm, ⟨10, _⟩ => ⟨S16384x8, .i32⟩
  | .hbm, ⟨11, _⟩ => ⟨S16384x8, .i32⟩
  | .hbm, ⟨12, _⟩ => ⟨S131072, .i32⟩
  | .hbm, ⟨13, _⟩ => ⟨S131072x2x128, .f32⟩
  | .hbm, ⟨14, _⟩ => ⟨S4x4096x2048, .f32⟩
  | .shared, ⟨0, _⟩ => ⟨S16x2x64x2x128, .f32⟩
  | .local .scVector .vmem, ⟨0, _⟩ => ⟨S512, .i32⟩
  | .local .scVector .vmem, ⟨1, _⟩ => ⟨S4096, .i32⟩
  | .local .scVector .vmem, ⟨2, _⟩ => ⟨S128x2x128, .f32⟩
  | .local .scVector .vmem, ⟨3, _⟩ => ⟨S128x2x128, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_c_scv : Ref sig .scVector := ⟨.hbm, 1, rfl⟩
abbrev main_v9_scv : Ref sig .scVector := ⟨.hbm, 12, rfl⟩
abbrev main_v10_scv : Ref sig .scVector := ⟨.hbm, 13, rfl⟩
abbrev cc0_scratch4 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c8_i32 : BitVec 32 := 8#32
  let v3 : BitVec 32 := Scalar.muli v2 c8_i32
  ![v3.toNat]
def k0_off3 (i : grid0.Coords) : Fin 5 → Nat :=
  let arg1 : BitVec 32 := BitVec.ofNat 32 (i 1).val
  let c0_i32_4 : BitVec 32 := 0#32
  let c0_i32_5 : BitVec 32 := 0#32
  let c0_i32_6 : BitVec 32 := 0#32
  let c0_i32_7 : BitVec 32 := 0#32
  ![arg1.toNat, 0, 0, 0, 0]
def k0_off4 (v9 : BitVec 32) : Fin 3 → Nat :=
  let c8_i32_3 : BitVec 32 := 8#32
  let v10 : BitVec 32 := Scalar.muli v9 c8_i32_3
  let c0_i32_8 : BitVec 32 := 0#32
  let c0_i32_9 : BitVec 32 := 0#32
  ![v10.toNat, 0, 0]

def k0_chk1 (v9 : BitVec 32) : Prop :=
  (∀ a, (k0_off4 v9) a + S8x2x128.size a ≤ S131072x2x128.size a)
theorem k0_off4_inb : ∀ (v9 : BitVec 32) (k0_hw1 : k0_chk1 v9), ∀ a, (k0_off4 v9) a + S8x2x128.size a ≤ S131072x2x128.size a := fun v9 k0_hw1 => k0_hw1

def k0_off5 (i : grid0.Coords) : Fin 5 → Nat :=
  let arg1 : BitVec 32 := BitVec.ofNat 32 (i 1).val
  let c0_i32_11 : BitVec 32 := 0#32
  let c8_i32_12 : BitVec 32 := 8#32
  let c0_i32_13 : BitVec 32 := 0#32
  let c0_i32_14 : BitVec 32 := 0#32
  ![arg1.toNat, 0, 8, 0, 0]
def k0_off6 (v15 : BitVec 32) : Fin 3 → Nat :=
  let c8_i32_10 : BitVec 32 := 8#32
  let v16 : BitVec 32 := Scalar.muli v15 c8_i32_10
  let c0_i32_15 : BitVec 32 := 0#32
  let c0_i32_16 : BitVec 32 := 0#32
  ![v16.toNat, 0, 0]

def k0_chk2 (v15 : BitVec 32) : Prop :=
  (∀ a, (k0_off6 v15) a + S8x2x128.size a ≤ S131072x2x128.size a)
theorem k0_off6_inb : ∀ (v15 : BitVec 32) (k0_hw2 : k0_chk2 v15), ∀ a, (k0_off6 v15) a + S8x2x128.size a ≤ S131072x2x128.size a := fun v15 k0_hw2 => k0_hw2

def k0_off7 (i : grid0.Coords) : Fin 5 → Nat :=
  let arg1 : BitVec 32 := BitVec.ofNat 32 (i 1).val
  let c0_i32_18 : BitVec 32 := 0#32
  let c16_i32 : BitVec 32 := 16#32
  let c0_i32_19 : BitVec 32 := 0#32
  let c0_i32_20 : BitVec 32 := 0#32
  ![arg1.toNat, 0, 16, 0, 0]
def k0_off8 (v21 : BitVec 32) : Fin 3 → Nat :=
  let c8_i32_17 : BitVec 32 := 8#32
  let v22 : BitVec 32 := Scalar.muli v21 c8_i32_17
  let c0_i32_21 : BitVec 32 := 0#32
  let c0_i32_22 : BitVec 32 := 0#32
  ![v22.toNat, 0, 0]

def k0_chk3 (v21 : BitVec 32) : Prop :=
  (∀ a, (k0_off8 v21) a + S8x2x128.size a ≤ S131072x2x128.size a)
theorem k0_off8_inb : ∀ (v21 : BitVec 32) (k0_hw3 : k0_chk3 v21), ∀ a, (k0_off8 v21) a + S8x2x128.size a ≤ S131072x2x128.size a := fun v21 k0_hw3 => k0_hw3

def k0_off9 (i : grid0.Coords) : Fin 5 → Nat :=
  let arg1 : BitVec 32 := BitVec.ofNat 32 (i 1).val
  let c0_i32_24 : BitVec 32 := 0#32
  let c24_i32 : BitVec 32 := 24#32
  let c0_i32_25 : BitVec 32 := 0#32
  let c0_i32_26 : BitVec 32 := 0#32
  ![arg1.toNat, 0, 24, 0, 0]
def k0_off10 (v27 : BitVec 32) : Fin 3 → Nat :=
  let c8_i32_23 : BitVec 32 := 8#32
  let v28 : BitVec 32 := Scalar.muli v27 c8_i32_23
  let c0_i32_27 : BitVec 32 := 0#32
  let c0_i32_28 : BitVec 32 := 0#32
  ![v28.toNat, 0, 0]

def k0_chk4 (v27 : BitVec 32) : Prop :=
  (∀ a, (k0_off10 v27) a + S8x2x128.size a ≤ S131072x2x128.size a)
theorem k0_off10_inb : ∀ (v27 : BitVec 32) (k0_hw4 : k0_chk4 v27), ∀ a, (k0_off10 v27) a + S8x2x128.size a ≤ S131072x2x128.size a := fun v27 k0_hw4 => k0_hw4

def k0_off11 (i : grid0.Coords) : Fin 5 → Nat :=
  let arg1 : BitVec 32 := BitVec.ofNat 32 (i 1).val
  let c0_i32_30 : BitVec 32 := 0#32
  let c32_i32 : BitVec 32 := 32#32
  let c0_i32_31 : BitVec 32 := 0#32
  let c0_i32_32 : BitVec 32 := 0#32
  ![arg1.toNat, 0, 32, 0, 0]
def k0_off12 (v33 : BitVec 32) : Fin 3 → Nat :=
  let c8_i32_29 : BitVec 32 := 8#32
  let v34 : BitVec 32 := Scalar.muli v33 c8_i32_29
  let c0_i32_33 : BitVec 32 := 0#32
  let c0_i32_34 : BitVec 32 := 0#32
  ![v34.toNat, 0, 0]

def k0_chk5 (v33 : BitVec 32) : Prop :=
  (∀ a, (k0_off12 v33) a + S8x2x128.size a ≤ S131072x2x128.size a)
theorem k0_off12_inb : ∀ (v33 : BitVec 32) (k0_hw5 : k0_chk5 v33), ∀ a, (k0_off12 v33) a + S8x2x128.size a ≤ S131072x2x128.size a := fun v33 k0_hw5 => k0_hw5

def k0_off13 (i : grid0.Coords) : Fin 5 → Nat :=
  let arg1 : BitVec 32 := BitVec.ofNat 32 (i 1).val
  let c0_i32_36 : BitVec 32 := 0#32
  let c40_i32 : BitVec 32 := 40#32
  let c0_i32_37 : BitVec 32 := 0#32
  let c0_i32_38 : BitVec 32 := 0#32
  ![arg1.toNat, 0, 40, 0, 0]
def k0_off14 (v39 : BitVec 32) : Fin 3 → Nat :=
  let c8_i32_35 : BitVec 32 := 8#32
  let v40 : BitVec 32 := Scalar.muli v39 c8_i32_35
  let c0_i32_39 : BitVec 32 := 0#32
  let c0_i32_40 : BitVec 32 := 0#32
  ![v40.toNat, 0, 0]

def k0_chk6 (v39 : BitVec 32) : Prop :=
  (∀ a, (k0_off14 v39) a + S8x2x128.size a ≤ S131072x2x128.size a)
theorem k0_off14_inb : ∀ (v39 : BitVec 32) (k0_hw6 : k0_chk6 v39), ∀ a, (k0_off14 v39) a + S8x2x128.size a ≤ S131072x2x128.size a := fun v39 k0_hw6 => k0_hw6

def k0_off15 (i : grid0.Coords) : Fin 5 → Nat :=
  let arg1 : BitVec 32 := BitVec.ofNat 32 (i 1).val
  let c0_i32_42 : BitVec 32 := 0#32
  let c48_i32 : BitVec 32 := 48#32
  let c0_i32_43 : BitVec 32 := 0#32
  let c0_i32_44 : BitVec 32 := 0#32
  ![arg1.toNat, 0, 48, 0, 0]
def k0_off16 (v45 : BitVec 32) : Fin 3 → Nat :=
  let c8_i32_41 : BitVec 32 := 8#32
  let v46 : BitVec 32 := Scalar.muli v45 c8_i32_41
  let c0_i32_45 : BitVec 32 := 0#32
  let c0_i32_46 : BitVec 32 := 0#32
  ![v46.toNat, 0, 0]

def k0_chk7 (v45 : BitVec 32) : Prop :=
  (∀ a, (k0_off16 v45) a + S8x2x128.size a ≤ S131072x2x128.size a)
theorem k0_off16_inb : ∀ (v45 : BitVec 32) (k0_hw7 : k0_chk7 v45), ∀ a, (k0_off16 v45) a + S8x2x128.size a ≤ S131072x2x128.size a := fun v45 k0_hw7 => k0_hw7

def k0_off17 (i : grid0.Coords) : Fin 5 → Nat :=
  let arg1 : BitVec 32 := BitVec.ofNat 32 (i 1).val
  let c0_i32_48 : BitVec 32 := 0#32
  let c56_i32 : BitVec 32 := 56#32
  let c0_i32_49 : BitVec 32 := 0#32
  let c0_i32_50 : BitVec 32 := 0#32
  ![arg1.toNat, 0, 56, 0, 0]
def k0_off18 (v51 : BitVec 32) : Fin 3 → Nat :=
  let c8_i32_47 : BitVec 32 := 8#32
  let v52 : BitVec 32 := Scalar.muli v51 c8_i32_47
  let c0_i32_51 : BitVec 32 := 0#32
  let c0_i32_52 : BitVec 32 := 0#32
  ![v52.toNat, 0, 0]

def k0_chk8 (v51 : BitVec 32) : Prop :=
  (∀ a, (k0_off18 v51) a + S8x2x128.size a ≤ S131072x2x128.size a)
theorem k0_off18_inb : ∀ (v51 : BitVec 32) (k0_hw8 : k0_chk8 v51), ∀ a, (k0_off18 v51) a + S8x2x128.size a ≤ S131072x2x128.size a := fun v51 k0_hw8 => k0_hw8

def k0_off19 (i : grid0.Coords) : Fin 5 → Nat :=
  let arg1 : BitVec 32 := BitVec.ofNat 32 (i 1).val
  let c1_i32 : BitVec 32 := 1#32
  let c0_i32_55 : BitVec 32 := 0#32
  let c0_i32_56 : BitVec 32 := 0#32
  let c0_i32_57 : BitVec 32 := 0#32
  ![arg1.toNat, 1, 0, 0, 0]
def k0_off20 (v59 : BitVec 32) : Fin 3 → Nat :=
  let c8_i32_54 : BitVec 32 := 8#32
  let v60 : BitVec 32 := Scalar.muli v59 c8_i32_54
  let c0_i32_58 : BitVec 32 := 0#32
  let c0_i32_59 : BitVec 32 := 0#32
  ![v60.toNat, 0, 0]

def k0_chk9 (v59 : BitVec 32) : Prop :=
  (∀ a, (k0_off20 v59) a + S8x2x128.size a ≤ S131072x2x128.size a)
theorem k0_off20_inb : ∀ (v59 : BitVec 32) (k0_hw9 : k0_chk9 v59), ∀ a, (k0_off20 v59) a + S8x2x128.size a ≤ S131072x2x128.size a := fun v59 k0_hw9 => k0_hw9

def k0_off21 (i : grid0.Coords) : Fin 5 → Nat :=
  let arg1 : BitVec 32 := BitVec.ofNat 32 (i 1).val
  let c1_i32_61 : BitVec 32 := 1#32
  let c8_i32_62 : BitVec 32 := 8#32
  let c0_i32_63 : BitVec 32 := 0#32
  let c0_i32_64 : BitVec 32 := 0#32
  ![arg1.toNat, 1, 8, 0, 0]
def k0_off22 (v65 : BitVec 32) : Fin 3 → Nat :=
  let c8_i32_60 : BitVec 32 := 8#32
  let v66 : BitVec 32 := Scalar.muli v65 c8_i32_60
  let c0_i32_65 : BitVec 32 := 0#32
  let c0_i32_66 : BitVec 32 := 0#32
  ![v66.toNat, 0, 0]

def k0_chk10 (v65 : BitVec 32) : Prop :=
  (∀ a, (k0_off22 v65) a + S8x2x128.size a ≤ S131072x2x128.size a)
theorem k0_off22_inb : ∀ (v65 : BitVec 32) (k0_hw10 : k0_chk10 v65), ∀ a, (k0_off22 v65) a + S8x2x128.size a ≤ S131072x2x128.size a := fun v65 k0_hw10 => k0_hw10

def k0_off23 (i : grid0.Coords) : Fin 5 → Nat :=
  let arg1 : BitVec 32 := BitVec.ofNat 32 (i 1).val
  let c1_i32_68 : BitVec 32 := 1#32
  let c16_i32_69 : BitVec 32 := 16#32
  let c0_i32_70 : BitVec 32 := 0#32
  let c0_i32_71 : BitVec 32 := 0#32
  ![arg1.toNat, 1, 16, 0, 0]
def k0_off24 (v71 : BitVec 32) : Fin 3 → Nat :=
  let c8_i32_67 : BitVec 32 := 8#32
  let v72 : BitVec 32 := Scalar.muli v71 c8_i32_67
  let c0_i32_72 : BitVec 32 := 0#32
  let c0_i32_73 : BitVec 32 := 0#32
  ![v72.toNat, 0, 0]

def k0_chk11 (v71 : BitVec 32) : Prop :=
  (∀ a, (k0_off24 v71) a + S8x2x128.size a ≤ S131072x2x128.size a)
theorem k0_off24_inb : ∀ (v71 : BitVec 32) (k0_hw11 : k0_chk11 v71), ∀ a, (k0_off24 v71) a + S8x2x128.size a ≤ S131072x2x128.size a := fun v71 k0_hw11 => k0_hw11

def k0_off25 (i : grid0.Coords) : Fin 5 → Nat :=
  let arg1 : BitVec 32 := BitVec.ofNat 32 (i 1).val
  let c1_i32_75 : BitVec 32 := 1#32
  let c24_i32_76 : BitVec 32 := 24#32
  let c0_i32_77 : BitVec 32 := 0#32
  let c0_i32_78 : BitVec 32 := 0#32
  ![arg1.toNat, 1, 24, 0, 0]
def k0_off26 (v77 : BitVec 32) : Fin 3 → Nat :=
  let c8_i32_74 : BitVec 32 := 8#32
  let v78 : BitVec 32 := Scalar.muli v77 c8_i32_74
  let c0_i32_79 : BitVec 32 := 0#32
  let c0_i32_80 : BitVec 32 := 0#32
  ![v78.toNat, 0, 0]

def k0_chk12 (v77 : BitVec 32) : Prop :=
  (∀ a, (k0_off26 v77) a + S8x2x128.size a ≤ S131072x2x128.size a)
theorem k0_off26_inb : ∀ (v77 : BitVec 32) (k0_hw12 : k0_chk12 v77), ∀ a, (k0_off26 v77) a + S8x2x128.size a ≤ S131072x2x128.size a := fun v77 k0_hw12 => k0_hw12

def k0_off27 (i : grid0.Coords) : Fin 5 → Nat :=
  let arg1 : BitVec 32 := BitVec.ofNat 32 (i 1).val
  let c1_i32_82 : BitVec 32 := 1#32
  let c32_i32_83 : BitVec 32 := 32#32
  let c0_i32_84 : BitVec 32 := 0#32
  let c0_i32_85 : BitVec 32 := 0#32
  ![arg1.toNat, 1, 32, 0, 0]
def k0_off28 (v83 : BitVec 32) : Fin 3 → Nat :=
  let c8_i32_81 : BitVec 32 := 8#32
  let v84 : BitVec 32 := Scalar.muli v83 c8_i32_81
  let c0_i32_86 : BitVec 32 := 0#32
  let c0_i32_87 : BitVec 32 := 0#32
  ![v84.toNat, 0, 0]

def k0_chk13 (v83 : BitVec 32) : Prop :=
  (∀ a, (k0_off28 v83) a + S8x2x128.size a ≤ S131072x2x128.size a)
theorem k0_off28_inb : ∀ (v83 : BitVec 32) (k0_hw13 : k0_chk13 v83), ∀ a, (k0_off28 v83) a + S8x2x128.size a ≤ S131072x2x128.size a := fun v83 k0_hw13 => k0_hw13

def k0_off29 (i : grid0.Coords) : Fin 5 → Nat :=
  let arg1 : BitVec 32 := BitVec.ofNat 32 (i 1).val
  let c1_i32_89 : BitVec 32 := 1#32
  let c40_i32_90 : BitVec 32 := 40#32
  let c0_i32_91 : BitVec 32 := 0#32
  let c0_i32_92 : BitVec 32 := 0#32
  ![arg1.toNat, 1, 40, 0, 0]
def k0_off30 (v89 : BitVec 32) : Fin 3 → Nat :=
  let c8_i32_88 : BitVec 32 := 8#32
  let v90 : BitVec 32 := Scalar.muli v89 c8_i32_88
  let c0_i32_93 : BitVec 32 := 0#32
  let c0_i32_94 : BitVec 32 := 0#32
  ![v90.toNat, 0, 0]

def k0_chk14 (v89 : BitVec 32) : Prop :=
  (∀ a, (k0_off30 v89) a + S8x2x128.size a ≤ S131072x2x128.size a)
theorem k0_off30_inb : ∀ (v89 : BitVec 32) (k0_hw14 : k0_chk14 v89), ∀ a, (k0_off30 v89) a + S8x2x128.size a ≤ S131072x2x128.size a := fun v89 k0_hw14 => k0_hw14

def k0_off31 (i : grid0.Coords) : Fin 5 → Nat :=
  let arg1 : BitVec 32 := BitVec.ofNat 32 (i 1).val
  let c1_i32_96 : BitVec 32 := 1#32
  let c48_i32_97 : BitVec 32 := 48#32
  let c0_i32_98 : BitVec 32 := 0#32
  let c0_i32_99 : BitVec 32 := 0#32
  ![arg1.toNat, 1, 48, 0, 0]
def k0_off32 (v95 : BitVec 32) : Fin 3 → Nat :=
  let c8_i32_95 : BitVec 32 := 8#32
  let v96 : BitVec 32 := Scalar.muli v95 c8_i32_95
  let c0_i32_100 : BitVec 32 := 0#32
  let c0_i32_101 : BitVec 32 := 0#32
  ![v96.toNat, 0, 0]

def k0_chk15 (v95 : BitVec 32) : Prop :=
  (∀ a, (k0_off32 v95) a + S8x2x128.size a ≤ S131072x2x128.size a)
theorem k0_off32_inb : ∀ (v95 : BitVec 32) (k0_hw15 : k0_chk15 v95), ∀ a, (k0_off32 v95) a + S8x2x128.size a ≤ S131072x2x128.size a := fun v95 k0_hw15 => k0_hw15

def k0_off33 (i : grid0.Coords) : Fin 5 → Nat :=
  let arg1 : BitVec 32 := BitVec.ofNat 32 (i 1).val
  let c1_i32_103 : BitVec 32 := 1#32
  let c56_i32_104 : BitVec 32 := 56#32
  let c0_i32_105 : BitVec 32 := 0#32
  let c0_i32_106 : BitVec 32 := 0#32
  ![arg1.toNat, 1, 56, 0, 0]
def k0_off34 (v101 : BitVec 32) : Fin 3 → Nat :=
  let c8_i32_102 : BitVec 32 := 8#32
  let v102 : BitVec 32 := Scalar.muli v101 c8_i32_102
  let c0_i32_107 : BitVec 32 := 0#32
  let c0_i32_108 : BitVec 32 := 0#32
  ![v102.toNat, 0, 0]

def k0_chk16 (v101 : BitVec 32) : Prop :=
  (∀ a, (k0_off34 v101) a + S8x2x128.size a ≤ S131072x2x128.size a)
theorem k0_off34_inb : ∀ (v101 : BitVec 32) (k0_hw16 : k0_chk16 v101), ∀ a, (k0_off34 v101) a + S8x2x128.size a ≤ S131072x2x128.size a := fun v101 k0_hw16 => k0_hw16

@[reducible] def k0_t1_loop : Scf.Loop 32 :=
  let c0_i32_113 : BitVec 32 := 0#32
  let c8_i32_114 : BitVec 32 := 8#32
  let v108 : BitVec 32 := Scalar.addi c0_i32_113 c8_i32_114
  let c1_i32_115 : BitVec 32 := 1#32
  ⟨c0_i32_113, v108, c1_i32_115⟩
def k0_off35 (k0_t1 : Fin k0_t1_loop.trips) : Fin 1 → Nat :=
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c32_i32_149 : BitVec 32 := 32#32
  let v134 : BitVec 32 := Scalar.muli v132 c32_i32_149
  let c8_i32_150 : BitVec 32 := 8#32
  let v135 : BitVec 32 := Scalar.muli v134 c8_i32_150
  ![v135.toNat]
def k0_off36 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c32_i32_154 : BitVec 32 := 32#32
  let v138 : BitVec 32 := Scalar.muli v132 c32_i32_154
  let v139 : BitVec 32 := Scalar.addi v2 v138
  let c8_i32_155 : BitVec 32 := 8#32
  let v140 : BitVec 32 := Scalar.muli v139 c8_i32_155
  let c0_i32_156 : BitVec 32 := 0#32
  let c0_i32_157 : BitVec 32 := 0#32
  ![v140.toNat, 0, 0]
def k0_off37 (i : grid0.Coords) : Fin 5 → Nat :=
  let arg1 : BitVec 32 := BitVec.ofNat 32 (i 1).val
  let c0_i32_160 : BitVec 32 := 0#32
  let c0_i32_161 : BitVec 32 := 0#32
  let c0_i32_162 : BitVec 32 := 0#32
  let c0_i32_163 : BitVec 32 := 0#32
  ![arg1.toNat, 0, 0, 0, 0]
def k0_off38 (i : grid0.Coords) (k0_t1 : Fin k0_t1_loop.trips) (c0_i32_169 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c32_i32_167 : BitVec 32 := 32#32
  let v146 : BitVec 32 := Scalar.muli v132 c32_i32_167
  let v147 : BitVec 32 := Scalar.addi v2 v146
  let c16_i32_168 : BitVec 32 := 16#32
  let v148 : BitVec 32 := Scalar.addi v147 c16_i32_168
  let v149 : BitVec 32 := Scalar.addi v148 c0_i32_169
  let c8_i32_170 : BitVec 32 := 8#32
  let v150 : BitVec 32 := Scalar.muli v149 c8_i32_170
  let c0_i32_172 : BitVec 32 := 0#32
  let c0_i32_173 : BitVec 32 := 0#32
  ![v150.toNat, 0, 0]
def k0_off39 (i : grid0.Coords) : Fin 5 → Nat :=
  let arg1 : BitVec 32 := BitVec.ofNat 32 (i 1).val
  let c1_i32_177 : BitVec 32 := 1#32
  let c0_i32_178 : BitVec 32 := 0#32
  let c0_i32_179 : BitVec 32 := 0#32
  let c0_i32_180 : BitVec 32 := 0#32
  ![arg1.toNat, 1, 0, 0, 0]
def k0_off40 (k0_t1 : Fin k0_t1_loop.trips) : Fin 1 → Nat :=
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c32_i32_204 : BitVec 32 := 32#32
  let v173 : BitVec 32 := Scalar.muli v133 c32_i32_204
  let c16_i32_205 : BitVec 32 := 16#32
  let v174 : BitVec 32 := Scalar.addi v173 c16_i32_205
  let v175 : Index := Scalar.indexCast v174
  ![v175.toNat]
def k0_off41 (i : grid0.Coords) : Fin 5 → Nat :=
  let arg1 : BitVec 32 := BitVec.ofNat 32 (i 1).val
  let c0_i32_207 : BitVec 32 := 0#32
  let c0_i32_208 : BitVec 32 := 0#32
  let c0_i32_209 : BitVec 32 := 0#32
  let c0_i32_210 : BitVec 32 := 0#32
  ![arg1.toNat, 0, 0, 0, 0]
def k0_off42 (v179 : BitVec 32) : Fin 3 → Nat :=
  let c8_i32_206 : BitVec 32 := 8#32
  let v180 : BitVec 32 := Scalar.muli v179 c8_i32_206
  let c0_i32_211 : BitVec 32 := 0#32
  let c0_i32_212 : BitVec 32 := 0#32
  ![v180.toNat, 0, 0]

def k0_chk17 (v179 : BitVec 32) : Prop :=
  (∀ a, (k0_off42 v179) a + S8x2x128.size a ≤ S131072x2x128.size a)
theorem k0_off42_inb : ∀ (v179 : BitVec 32) (k0_hw17 : k0_chk17 v179), ∀ a, (k0_off42 v179) a + S8x2x128.size a ≤ S131072x2x128.size a := fun v179 k0_hw17 => k0_hw17

def k0_off43 (i : grid0.Coords) : Fin 5 → Nat :=
  let arg1 : BitVec 32 := BitVec.ofNat 32 (i 1).val
  let c0_i32_214 : BitVec 32 := 0#32
  let c8_i32_215 : BitVec 32 := 8#32
  let c0_i32_216 : BitVec 32 := 0#32
  let c0_i32_217 : BitVec 32 := 0#32
  ![arg1.toNat, 0, 8, 0, 0]
def k0_off44 (v185 : BitVec 32) : Fin 3 → Nat :=
  let c8_i32_213 : BitVec 32 := 8#32
  let v186 : BitVec 32 := Scalar.muli v185 c8_i32_213
  let c0_i32_218 : BitVec 32 := 0#32
  let c0_i32_219 : BitVec 32 := 0#32
  ![v186.toNat, 0, 0]

def k0_chk18 (v185 : BitVec 32) : Prop :=
  (∀ a, (k0_off44 v185) a + S8x2x128.size a ≤ S131072x2x128.size a)
theorem k0_off44_inb : ∀ (v185 : BitVec 32) (k0_hw18 : k0_chk18 v185), ∀ a, (k0_off44 v185) a + S8x2x128.size a ≤ S131072x2x128.size a := fun v185 k0_hw18 => k0_hw18

def k0_off45 (i : grid0.Coords) : Fin 5 → Nat :=
  let arg1 : BitVec 32 := BitVec.ofNat 32 (i 1).val
  let c0_i32_221 : BitVec 32 := 0#32
  let c16_i32_222 : BitVec 32 := 16#32
  let c0_i32_223 : BitVec 32 := 0#32
  let c0_i32_224 : BitVec 32 := 0#32
  ![arg1.toNat, 0, 16, 0, 0]
def k0_off46 (v191 : BitVec 32) : Fin 3 → Nat :=
  let c8_i32_220 : BitVec 32 := 8#32
  let v192 : BitVec 32 := Scalar.muli v191 c8_i32_220
  let c0_i32_225 : BitVec 32 := 0#32
  let c0_i32_226 : BitVec 32 := 0#32
  ![v192.toNat, 0, 0]

def k0_chk19 (v191 : BitVec 32) : Prop :=
  (∀ a, (k0_off46 v191) a + S8x2x128.size a ≤ S131072x2x128.size a)
theorem k0_off46_inb : ∀ (v191 : BitVec 32) (k0_hw19 : k0_chk19 v191), ∀ a, (k0_off46 v191) a + S8x2x128.size a ≤ S131072x2x128.size a := fun v191 k0_hw19 => k0_hw19

def k0_off47 (i : grid0.Coords) : Fin 5 → Nat :=
  let arg1 : BitVec 32 := BitVec.ofNat 32 (i 1).val
  let c0_i32_228 : BitVec 32 := 0#32
  let c24_i32_229 : BitVec 32 := 24#32
  let c0_i32_230 : BitVec 32 := 0#32
  let c0_i32_231 : BitVec 32 := 0#32
  ![arg1.toNat, 0, 24, 0, 0]
def k0_off48 (v197 : BitVec 32) : Fin 3 → Nat :=
  let c8_i32_227 : BitVec 32 := 8#32
  let v198 : BitVec 32 := Scalar.muli v197 c8_i32_227
  let c0_i32_232 : BitVec 32 := 0#32
  let c0_i32_233 : BitVec 32 := 0#32
  ![v198.toNat, 0, 0]

def k0_chk20 (v197 : BitVec 32) : Prop :=
  (∀ a, (k0_off48 v197) a + S8x2x128.size a ≤ S131072x2x128.size a)
theorem k0_off48_inb : ∀ (v197 : BitVec 32) (k0_hw20 : k0_chk20 v197), ∀ a, (k0_off48 v197) a + S8x2x128.size a ≤ S131072x2x128.size a := fun v197 k0_hw20 => k0_hw20

def k0_off49 (i : grid0.Coords) : Fin 5 → Nat :=
  let arg1 : BitVec 32 := BitVec.ofNat 32 (i 1).val
  let c0_i32_235 : BitVec 32 := 0#32
  let c32_i32_236 : BitVec 32 := 32#32
  let c0_i32_237 : BitVec 32 := 0#32
  let c0_i32_238 : BitVec 32 := 0#32
  ![arg1.toNat, 0, 32, 0, 0]
def k0_off50 (v203 : BitVec 32) : Fin 3 → Nat :=
  let c8_i32_234 : BitVec 32 := 8#32
  let v204 : BitVec 32 := Scalar.muli v203 c8_i32_234
  let c0_i32_239 : BitVec 32 := 0#32
  let c0_i32_240 : BitVec 32 := 0#32
  ![v204.toNat, 0, 0]

def k0_chk21 (v203 : BitVec 32) : Prop :=
  (∀ a, (k0_off50 v203) a + S8x2x128.size a ≤ S131072x2x128.size a)
theorem k0_off50_inb : ∀ (v203 : BitVec 32) (k0_hw21 : k0_chk21 v203), ∀ a, (k0_off50 v203) a + S8x2x128.size a ≤ S131072x2x128.size a := fun v203 k0_hw21 => k0_hw21

def k0_off51 (i : grid0.Coords) : Fin 5 → Nat :=
  let arg1 : BitVec 32 := BitVec.ofNat 32 (i 1).val
  let c0_i32_242 : BitVec 32 := 0#32
  let c40_i32_243 : BitVec 32 := 40#32
  let c0_i32_244 : BitVec 32 := 0#32
  let c0_i32_245 : BitVec 32 := 0#32
  ![arg1.toNat, 0, 40, 0, 0]
def k0_off52 (v209 : BitVec 32) : Fin 3 → Nat :=
  let c8_i32_241 : BitVec 32 := 8#32
  let v210 : BitVec 32 := Scalar.muli v209 c8_i32_241
  let c0_i32_246 : BitVec 32 := 0#32
  let c0_i32_247 : BitVec 32 := 0#32
  ![v210.toNat, 0, 0]

def k0_chk22 (v209 : BitVec 32) : Prop :=
  (∀ a, (k0_off52 v209) a + S8x2x128.size a ≤ S131072x2x128.size a)
theorem k0_off52_inb : ∀ (v209 : BitVec 32) (k0_hw22 : k0_chk22 v209), ∀ a, (k0_off52 v209) a + S8x2x128.size a ≤ S131072x2x128.size a := fun v209 k0_hw22 => k0_hw22

def k0_off53 (i : grid0.Coords) : Fin 5 → Nat :=
  let arg1 : BitVec 32 := BitVec.ofNat 32 (i 1).val
  let c0_i32_249 : BitVec 32 := 0#32
  let c48_i32_250 : BitVec 32 := 48#32
  let c0_i32_251 : BitVec 32 := 0#32
  let c0_i32_252 : BitVec 32 := 0#32
  ![arg1.toNat, 0, 48, 0, 0]
def k0_off54 (v215 : BitVec 32) : Fin 3 → Nat :=
  let c8_i32_248 : BitVec 32 := 8#32
  let v216 : BitVec 32 := Scalar.muli v215 c8_i32_248
  let c0_i32_253 : BitVec 32 := 0#32
  let c0_i32_254 : BitVec 32 := 0#32
  ![v216.toNat, 0, 0]

def k0_chk23 (v215 : BitVec 32) : Prop :=
  (∀ a, (k0_off54 v215) a + S8x2x128.size a ≤ S131072x2x128.size a)
theorem k0_off54_inb : ∀ (v215 : BitVec 32) (k0_hw23 : k0_chk23 v215), ∀ a, (k0_off54 v215) a + S8x2x128.size a ≤ S131072x2x128.size a := fun v215 k0_hw23 => k0_hw23

def k0_off55 (i : grid0.Coords) : Fin 5 → Nat :=
  let arg1 : BitVec 32 := BitVec.ofNat 32 (i 1).val
  let c0_i32_256 : BitVec 32 := 0#32
  let c56_i32_257 : BitVec 32 := 56#32
  let c0_i32_258 : BitVec 32 := 0#32
  let c0_i32_259 : BitVec 32 := 0#32
  ![arg1.toNat, 0, 56, 0, 0]
def k0_off56 (v221 : BitVec 32) : Fin 3 → Nat :=
  let c8_i32_255 : BitVec 32 := 8#32
  let v222 : BitVec 32 := Scalar.muli v221 c8_i32_255
  let c0_i32_260 : BitVec 32 := 0#32
  let c0_i32_261 : BitVec 32 := 0#32
  ![v222.toNat, 0, 0]

def k0_chk24 (v221 : BitVec 32) : Prop :=
  (∀ a, (k0_off56 v221) a + S8x2x128.size a ≤ S131072x2x128.size a)
theorem k0_off56_inb : ∀ (v221 : BitVec 32) (k0_hw24 : k0_chk24 v221), ∀ a, (k0_off56 v221) a + S8x2x128.size a ≤ S131072x2x128.size a := fun v221 k0_hw24 => k0_hw24

def k0_off57 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c32_i32_262 : BitVec 32 := 32#32
  let v226 : BitVec 32 := Scalar.muli v132 c32_i32_262
  let v227 : BitVec 32 := Scalar.addi v2 v226
  let c16_i32_263 : BitVec 32 := 16#32
  let v228 : BitVec 32 := Scalar.addi v227 c16_i32_263
  let c8_i32_264 : BitVec 32 := 8#32
  let v229 : BitVec 32 := Scalar.addi v228 c8_i32_264
  let c8_i32_265 : BitVec 32 := 8#32
  let v230 : BitVec 32 := Scalar.muli v229 c8_i32_265
  let c0_i32_267 : BitVec 32 := 0#32
  let c0_i32_268 : BitVec 32 := 0#32
  ![v230.toNat, 0, 0]
def k0_off58 (i : grid0.Coords) : Fin 5 → Nat :=
  let arg1 : BitVec 32 := BitVec.ofNat 32 (i 1).val
  let c1_i32_266 : BitVec 32 := 1#32
  let c0_i32_269 : BitVec 32 := 0#32
  let c0_i32_270 : BitVec 32 := 0#32
  let c0_i32_271 : BitVec 32 := 0#32
  ![arg1.toNat, 1, 0, 0, 0]
def k0_off59 (k0_t1 : Fin k0_t1_loop.trips) : Fin 1 → Nat :=
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c32_i32_272 : BitVec 32 := 32#32
  let v234 : BitVec 32 := Scalar.muli v133 c32_i32_272
  let c16_i32_273 : BitVec 32 := 16#32
  let v235 : BitVec 32 := Scalar.addi v234 c16_i32_273
  let v236 : Index := Scalar.indexCast v235
  ![v236.toNat]
def k0_off60 (i : grid0.Coords) : Fin 5 → Nat :=
  let arg1 : BitVec 32 := BitVec.ofNat 32 (i 1).val
  let c1_i32_275 : BitVec 32 := 1#32
  let c0_i32_276 : BitVec 32 := 0#32
  let c0_i32_277 : BitVec 32 := 0#32
  let c0_i32_278 : BitVec 32 := 0#32
  ![arg1.toNat, 1, 0, 0, 0]
def k0_off61 (v240 : BitVec 32) : Fin 3 → Nat :=
  let c8_i32_274 : BitVec 32 := 8#32
  let v241 : BitVec 32 := Scalar.muli v240 c8_i32_274
  let c0_i32_279 : BitVec 32 := 0#32
  let c0_i32_280 : BitVec 32 := 0#32
  ![v241.toNat, 0, 0]

def k0_chk25 (v240 : BitVec 32) : Prop :=
  (∀ a, (k0_off61 v240) a + S8x2x128.size a ≤ S131072x2x128.size a)
theorem k0_off61_inb : ∀ (v240 : BitVec 32) (k0_hw25 : k0_chk25 v240), ∀ a, (k0_off61 v240) a + S8x2x128.size a ≤ S131072x2x128.size a := fun v240 k0_hw25 => k0_hw25

def k0_off62 (i : grid0.Coords) : Fin 5 → Nat :=
  let arg1 : BitVec 32 := BitVec.ofNat 32 (i 1).val
  let c1_i32_282 : BitVec 32 := 1#32
  let c8_i32_283 : BitVec 32 := 8#32
  let c0_i32_284 : BitVec 32 := 0#32
  let c0_i32_285 : BitVec 32 := 0#32
  ![arg1.toNat, 1, 8, 0, 0]
def k0_off63 (v246 : BitVec 32) : Fin 3 → Nat :=
  let c8_i32_281 : BitVec 32 := 8#32
  let v247 : BitVec 32 := Scalar.muli v246 c8_i32_281
  let c0_i32_286 : BitVec 32 := 0#32
  let c0_i32_287 : BitVec 32 := 0#32
  ![v247.toNat, 0, 0]

def k0_chk26 (v246 : BitVec 32) : Prop :=
  (∀ a, (k0_off63 v246) a + S8x2x128.size a ≤ S131072x2x128.size a)
theorem k0_off63_inb : ∀ (v246 : BitVec 32) (k0_hw26 : k0_chk26 v246), ∀ a, (k0_off63 v246) a + S8x2x128.size a ≤ S131072x2x128.size a := fun v246 k0_hw26 => k0_hw26

def k0_off64 (i : grid0.Coords) : Fin 5 → Nat :=
  let arg1 : BitVec 32 := BitVec.ofNat 32 (i 1).val
  let c1_i32_289 : BitVec 32 := 1#32
  let c16_i32_290 : BitVec 32 := 16#32
  let c0_i32_291 : BitVec 32 := 0#32
  let c0_i32_292 : BitVec 32 := 0#32
  ![arg1.toNat, 1, 16, 0, 0]
def k0_off65 (v252 : BitVec 32) : Fin 3 → Nat :=
  let c8_i32_288 : BitVec 32 := 8#32
  let v253 : BitVec 32 := Scalar.muli v252 c8_i32_288
  let c0_i32_293 : BitVec 32 := 0#32
  let c0_i32_294 : BitVec 32 := 0#32
  ![v253.toNat, 0, 0]

def k0_chk27 (v252 : BitVec 32) : Prop :=
  (∀ a, (k0_off65 v252) a + S8x2x128.size a ≤ S131072x2x128.size a)
theorem k0_off65_inb : ∀ (v252 : BitVec 32) (k0_hw27 : k0_chk27 v252), ∀ a, (k0_off65 v252) a + S8x2x128.size a ≤ S131072x2x128.size a := fun v252 k0_hw27 => k0_hw27

def k0_off66 (i : grid0.Coords) : Fin 5 → Nat :=
  let arg1 : BitVec 32 := BitVec.ofNat 32 (i 1).val
  let c1_i32_296 : BitVec 32 := 1#32
  let c24_i32_297 : BitVec 32 := 24#32
  let c0_i32_298 : BitVec 32 := 0#32
  let c0_i32_299 : BitVec 32 := 0#32
  ![arg1.toNat, 1, 24, 0, 0]
def k0_off67 (v258 : BitVec 32) : Fin 3 → Nat :=
  let c8_i32_295 : BitVec 32 := 8#32
  let v259 : BitVec 32 := Scalar.muli v258 c8_i32_295
  let c0_i32_300 : BitVec 32 := 0#32
  let c0_i32_301 : BitVec 32 := 0#32
  ![v259.toNat, 0, 0]

def k0_chk28 (v258 : BitVec 32) : Prop :=
  (∀ a, (k0_off67 v258) a + S8x2x128.size a ≤ S131072x2x128.size a)
theorem k0_off67_inb : ∀ (v258 : BitVec 32) (k0_hw28 : k0_chk28 v258), ∀ a, (k0_off67 v258) a + S8x2x128.size a ≤ S131072x2x128.size a := fun v258 k0_hw28 => k0_hw28

def k0_off68 (i : grid0.Coords) : Fin 5 → Nat :=
  let arg1 : BitVec 32 := BitVec.ofNat 32 (i 1).val
  let c1_i32_303 : BitVec 32 := 1#32
  let c32_i32_304 : BitVec 32 := 32#32
  let c0_i32_305 : BitVec 32 := 0#32
  let c0_i32_306 : BitVec 32 := 0#32
  ![arg1.toNat, 1, 32, 0, 0]
def k0_off69 (v264 : BitVec 32) : Fin 3 → Nat :=
  let c8_i32_302 : BitVec 32 := 8#32
  let v265 : BitVec 32 := Scalar.muli v264 c8_i32_302
  let c0_i32_307 : BitVec 32 := 0#32
  let c0_i32_308 : BitVec 32 := 0#32
  ![v265.toNat, 0, 0]

def k0_chk29 (v264 : BitVec 32) : Prop :=
  (∀ a, (k0_off69 v264) a + S8x2x128.size a ≤ S131072x2x128.size a)
theorem k0_off69_inb : ∀ (v264 : BitVec 32) (k0_hw29 : k0_chk29 v264), ∀ a, (k0_off69 v264) a + S8x2x128.size a ≤ S131072x2x128.size a := fun v264 k0_hw29 => k0_hw29

def k0_off70 (i : grid0.Coords) : Fin 5 → Nat :=
  let arg1 : BitVec 32 := BitVec.ofNat 32 (i 1).val
  let c1_i32_310 : BitVec 32 := 1#32
  let c40_i32_311 : BitVec 32 := 40#32
  let c0_i32_312 : BitVec 32 := 0#32
  let c0_i32_313 : BitVec 32 := 0#32
  ![arg1.toNat, 1, 40, 0, 0]
def k0_off71 (v270 : BitVec 32) : Fin 3 → Nat :=
  let c8_i32_309 : BitVec 32 := 8#32
  let v271 : BitVec 32 := Scalar.muli v270 c8_i32_309
  let c0_i32_314 : BitVec 32 := 0#32
  let c0_i32_315 : BitVec 32 := 0#32
  ![v271.toNat, 0, 0]

def k0_chk30 (v270 : BitVec 32) : Prop :=
  (∀ a, (k0_off71 v270) a + S8x2x128.size a ≤ S131072x2x128.size a)
theorem k0_off71_inb : ∀ (v270 : BitVec 32) (k0_hw30 : k0_chk30 v270), ∀ a, (k0_off71 v270) a + S8x2x128.size a ≤ S131072x2x128.size a := fun v270 k0_hw30 => k0_hw30

def k0_off72 (i : grid0.Coords) : Fin 5 → Nat :=
  let arg1 : BitVec 32 := BitVec.ofNat 32 (i 1).val
  let c1_i32_317 : BitVec 32 := 1#32
  let c48_i32_318 : BitVec 32 := 48#32
  let c0_i32_319 : BitVec 32 := 0#32
  let c0_i32_320 : BitVec 32 := 0#32
  ![arg1.toNat, 1, 48, 0, 0]
def k0_off73 (v276 : BitVec 32) : Fin 3 → Nat :=
  let c8_i32_316 : BitVec 32 := 8#32
  let v277 : BitVec 32 := Scalar.muli v276 c8_i32_316
  let c0_i32_321 : BitVec 32 := 0#32
  let c0_i32_322 : BitVec 32 := 0#32
  ![v277.toNat, 0, 0]

def k0_chk31 (v276 : BitVec 32) : Prop :=
  (∀ a, (k0_off73 v276) a + S8x2x128.size a ≤ S131072x2x128.size a)
theorem k0_off73_inb : ∀ (v276 : BitVec 32) (k0_hw31 : k0_chk31 v276), ∀ a, (k0_off73 v276) a + S8x2x128.size a ≤ S131072x2x128.size a := fun v276 k0_hw31 => k0_hw31

def k0_off74 (i : grid0.Coords) : Fin 5 → Nat :=
  let arg1 : BitVec 32 := BitVec.ofNat 32 (i 1).val
  let c1_i32_324 : BitVec 32 := 1#32
  let c56_i32_325 : BitVec 32 := 56#32
  let c0_i32_326 : BitVec 32 := 0#32
  let c0_i32_327 : BitVec 32 := 0#32
  ![arg1.toNat, 1, 56, 0, 0]
def k0_off75 (v282 : BitVec 32) : Fin 3 → Nat :=
  let c8_i32_323 : BitVec 32 := 8#32
  let v283 : BitVec 32 := Scalar.muli v282 c8_i32_323
  let c0_i32_328 : BitVec 32 := 0#32
  let c0_i32_329 : BitVec 32 := 0#32
  ![v283.toNat, 0, 0]

def k0_chk32 (v282 : BitVec 32) : Prop :=
  (∀ a, (k0_off75 v282) a + S8x2x128.size a ≤ S131072x2x128.size a)
theorem k0_off75_inb : ∀ (v282 : BitVec 32) (k0_hw32 : k0_chk32 v282), ∀ a, (k0_off75 v282) a + S8x2x128.size a ≤ S131072x2x128.size a := fun v282 k0_hw32 => k0_hw32

def k0_cond1 (k0_t1 : Fin k0_t1_loop.trips) : BitVec 1 :=
  let c0_i32_113 : BitVec 32 := 0#32
  let c1_i32_115 : BitVec 32 := 1#32
  let arg19 : BitVec 32 := Scf.iv c0_i32_113 c1_i32_115 k0_t1
  let c7_i32 : BitVec 32 := 7#32
  let v287 : BitVec 1 := Scalar.cmpi .slt arg19 c7_i32
  let v288 : BitVec 32 := Scalar.extui v287
  let c0_i32_330 : BitVec 32 := 0#32
  let v289 : BitVec 1 := Scalar.cmpi .ne v288 c0_i32_330
  v289

def k0_off76 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c32_i32_379 : BitVec 32 := 32#32
  let v324 : BitVec 32 := Scalar.muli v132 c32_i32_379
  let v325 : BitVec 32 := Scalar.addi v2 v324
  let c8_i32_380 : BitVec 32 := 8#32
  let v326 : BitVec 32 := Scalar.muli v325 c8_i32_380
  let c0_i32_381 : BitVec 32 := 0#32
  let c0_i32_382 : BitVec 32 := 0#32
  ![v326.toNat, 0, 0]
def k0_off77 (k0_t1 : Fin k0_t1_loop.trips) : Fin 1 → Nat :=
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c2_i32_385 : BitVec 32 := 2#32
  let v329 : BitVec 32 := Scalar.addi v132 c2_i32_385
  let c32_i32_386 : BitVec 32 := 32#32
  let v330 : BitVec 32 := Scalar.muli v329 c32_i32_386
  let c8_i32_387 : BitVec 32 := 8#32
  let v331 : BitVec 32 := Scalar.muli v330 c8_i32_387
  ![v331.toNat]
def k0_off78 (k0_t1 : Fin k0_t1_loop.trips) : Fin 1 → Nat :=
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c32_i32_331 : BitVec 32 := 32#32
  let v290 : BitVec 32 := Scalar.muli v133 c32_i32_331
  let c8_i32_332 : BitVec 32 := 8#32
  let v291 : BitVec 32 := Scalar.muli v290 c8_i32_332
  ![v291.toNat]
def k0_off79 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c32_i32_336 : BitVec 32 := 32#32
  let v294 : BitVec 32 := Scalar.muli v133 c32_i32_336
  let v295 : BitVec 32 := Scalar.addi v2 v294
  let c8_i32_337 : BitVec 32 := 8#32
  let v296 : BitVec 32 := Scalar.muli v295 c8_i32_337
  let c0_i32_338 : BitVec 32 := 0#32
  let c0_i32_339 : BitVec 32 := 0#32
  ![v296.toNat, 0, 0]
def k0_off80 (i : grid0.Coords) : Fin 5 → Nat :=
  let arg1 : BitVec 32 := BitVec.ofNat 32 (i 1).val
  let c0_i32_342 : BitVec 32 := 0#32
  let c0_i32_343 : BitVec 32 := 0#32
  let c0_i32_344 : BitVec 32 := 0#32
  let c0_i32_345 : BitVec 32 := 0#32
  ![arg1.toNat, 0, 0, 0, 0]
def k0_off81 (i : grid0.Coords) (k0_t1 : Fin k0_t1_loop.trips) (c0_i32_351 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c32_i32_349 : BitVec 32 := 32#32
  let v302 : BitVec 32 := Scalar.muli v133 c32_i32_349
  let v303 : BitVec 32 := Scalar.addi v2 v302
  let c16_i32_350 : BitVec 32 := 16#32
  let v304 : BitVec 32 := Scalar.addi v303 c16_i32_350
  let v305 : BitVec 32 := Scalar.addi v304 c0_i32_351
  let c8_i32_352 : BitVec 32 := 8#32
  let v306 : BitVec 32 := Scalar.muli v305 c8_i32_352
  let c0_i32_354 : BitVec 32 := 0#32
  let c0_i32_355 : BitVec 32 := 0#32
  ![v306.toNat, 0, 0]
def k0_off82 (i : grid0.Coords) : Fin 5 → Nat :=
  let arg1 : BitVec 32 := BitVec.ofNat 32 (i 1).val
  let c1_i32_359 : BitVec 32 := 1#32
  let c0_i32_360 : BitVec 32 := 0#32
  let c0_i32_361 : BitVec 32 := 0#32
  let c0_i32_362 : BitVec 32 := 0#32
  ![arg1.toNat, 1, 0, 0, 0]
def k0_cond2 (k0_t1 : Fin k0_t1_loop.trips) : BitVec 1 :=
  let c0_i32_113 : BitVec 32 := 0#32
  let c1_i32_115 : BitVec 32 := 1#32
  let arg19 : BitVec 32 := Scf.iv c0_i32_113 c1_i32_115 k0_t1
  let c7_i32_376 : BitVec 32 := 7#32
  let v321 : BitVec 1 := Scalar.cmpi .slt arg19 c7_i32_376
  let v322 : BitVec 32 := Scalar.extui v321
  let c0_i32_377 : BitVec 32 := 0#32
  let v323 : BitVec 1 := Scalar.cmpi .ne v322 c0_i32_377
  v323

def k0_off83 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c32_i32_379 : BitVec 32 := 32#32
  let v324 : BitVec 32 := Scalar.muli v133 c32_i32_379
  let v325 : BitVec 32 := Scalar.addi v2 v324
  let c16_i32_380 : BitVec 32 := 16#32
  let v326 : BitVec 32 := Scalar.addi v325 c16_i32_380
  let c0_i32_381 : BitVec 32 := 0#32
  let v327 : BitVec 32 := Scalar.addi v326 c0_i32_381
  let c8_i32_382 : BitVec 32 := 8#32
  let v328 : BitVec 32 := Scalar.muli v327 c8_i32_382
  let c0_i32_384 : BitVec 32 := 0#32
  let c0_i32_385 : BitVec 32 := 0#32
  ![v328.toNat, 0, 0]
def k0_off84 (i : grid0.Coords) : Fin 5 → Nat :=
  let arg1 : BitVec 32 := BitVec.ofNat 32 (i 1).val
  let c0_i32_383 : BitVec 32 := 0#32
  let c0_i32_386 : BitVec 32 := 0#32
  let c0_i32_387 : BitVec 32 := 0#32
  let c0_i32_388 : BitVec 32 := 0#32
  ![arg1.toNat, 0, 0, 0, 0]
def k0_off85 (k0_t1 : Fin k0_t1_loop.trips) : Fin 1 → Nat :=
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c1_i32_389 : BitVec 32 := 1#32
  let v332 : BitVec 32 := Scalar.addi v133 c1_i32_389
  let c32_i32_390 : BitVec 32 := 32#32
  let v333 : BitVec 32 := Scalar.muli v332 c32_i32_390
  let c16_i32_391 : BitVec 32 := 16#32
  let v334 : BitVec 32 := Scalar.addi v333 c16_i32_391
  let v335 : Index := Scalar.indexCast v334
  ![v335.toNat]
def k0_off86 (i : grid0.Coords) : Fin 5 → Nat :=
  let arg1 : BitVec 32 := BitVec.ofNat 32 (i 1).val
  let c0_i32_393 : BitVec 32 := 0#32
  let c0_i32_394 : BitVec 32 := 0#32
  let c0_i32_395 : BitVec 32 := 0#32
  let c0_i32_396 : BitVec 32 := 0#32
  ![arg1.toNat, 0, 0, 0, 0]
def k0_off87 (v339 : BitVec 32) : Fin 3 → Nat :=
  let c8_i32_392 : BitVec 32 := 8#32
  let v340 : BitVec 32 := Scalar.muli v339 c8_i32_392
  let c0_i32_397 : BitVec 32 := 0#32
  let c0_i32_398 : BitVec 32 := 0#32
  ![v340.toNat, 0, 0]

def k0_chk33 (k0_t1 : Fin k0_t1_loop.trips) (v339 : BitVec 32) : Prop :=
  (∀ (k0_h2 : k0_cond2 k0_t1 = 1#1), ∀ a, (k0_off87 v339) a + S8x2x128.size a ≤ S131072x2x128.size a)
theorem k0_off87_inb : ∀ (k0_t1 : Fin k0_t1_loop.trips) (v339 : BitVec 32) (k0_hw33 : k0_chk33 k0_t1 v339), ∀ (k0_h2 : k0_cond2 k0_t1 = 1#1), ∀ a, (k0_off87 v339) a + S8x2x128.size a ≤ S131072x2x128.size a := fun k0_t1 v339 k0_hw33 k0_h2 => k0_hw33 k0_h2

def k0_off88 (i : grid0.Coords) : Fin 5 → Nat :=
  let arg1 : BitVec 32 := BitVec.ofNat 32 (i 1).val
  let c0_i32_400 : BitVec 32 := 0#32
  let c8_i32_401 : BitVec 32 := 8#32
  let c0_i32_402 : BitVec 32 := 0#32
  let c0_i32_403 : BitVec 32 := 0#32
  ![arg1.toNat, 0, 8, 0, 0]
def k0_off89 (v345 : BitVec 32) : Fin 3 → Nat :=
  let c8_i32_399 : BitVec 32 := 8#32
  let v346 : BitVec 32 := Scalar.muli v345 c8_i32_399
  let c0_i32_404 : BitVec 32 := 0#32
  let c0_i32_405 : BitVec 32 := 0#32
  ![v346.toNat, 0, 0]

def k0_chk34 (k0_t1 : Fin k0_t1_loop.trips) (v345 : BitVec 32) : Prop :=
  (∀ (k0_h2 : k0_cond2 k0_t1 = 1#1), ∀ a, (k0_off89 v345) a + S8x2x128.size a ≤ S131072x2x128.size a)
theorem k0_off89_inb : ∀ (k0_t1 : Fin k0_t1_loop.trips) (v345 : BitVec 32) (k0_hw34 : k0_chk34 k0_t1 v345), ∀ (k0_h2 : k0_cond2 k0_t1 = 1#1), ∀ a, (k0_off89 v345) a + S8x2x128.size a ≤ S131072x2x128.size a := fun k0_t1 v345 k0_hw34 k0_h2 => k0_hw34 k0_h2

def k0_off90 (i : grid0.Coords) : Fin 5 → Nat :=
  let arg1 : BitVec 32 := BitVec.ofNat 32 (i 1).val
  let c0_i32_407 : BitVec 32 := 0#32
  let c16_i32_408 : BitVec 32 := 16#32
  let c0_i32_409 : BitVec 32 := 0#32
  let c0_i32_410 : BitVec 32 := 0#32
  ![arg1.toNat, 0, 16, 0, 0]
def k0_off91 (v351 : BitVec 32) : Fin 3 → Nat :=
  let c8_i32_406 : BitVec 32 := 8#32
  let v352 : BitVec 32 := Scalar.muli v351 c8_i32_406
  let c0_i32_411 : BitVec 32 := 0#32
  let c0_i32_412 : BitVec 32 := 0#32
  ![v352.toNat, 0, 0]

def k0_chk35 (k0_t1 : Fin k0_t1_loop.trips) (v351 : BitVec 32) : Prop :=
  (∀ (k0_h2 : k0_cond2 k0_t1 = 1#1), ∀ a, (k0_off91 v351) a + S8x2x128.size a ≤ S131072x2x128.size a)
theorem k0_off91_inb : ∀ (k0_t1 : Fin k0_t1_loop.trips) (v351 : BitVec 32) (k0_hw35 : k0_chk35 k0_t1 v351), ∀ (k0_h2 : k0_cond2 k0_t1 = 1#1), ∀ a, (k0_off91 v351) a + S8x2x128.size a ≤ S131072x2x128.size a := fun k0_t1 v351 k0_hw35 k0_h2 => k0_hw35 k0_h2

def k0_off92 (i : grid0.Coords) : Fin 5 → Nat :=
  let arg1 : BitVec 32 := BitVec.ofNat 32 (i 1).val
  let c0_i32_414 : BitVec 32 := 0#32
  let c24_i32_415 : BitVec 32 := 24#32
  let c0_i32_416 : BitVec 32 := 0#32
  let c0_i32_417 : BitVec 32 := 0#32
  ![arg1.toNat, 0, 24, 0, 0]
def k0_off93 (v357 : BitVec 32) : Fin 3 → Nat :=
  let c8_i32_413 : BitVec 32 := 8#32
  let v358 : BitVec 32 := Scalar.muli v357 c8_i32_413
  let c0_i32_418 : BitVec 32 := 0#32
  let c0_i32_419 : BitVec 32 := 0#32
  ![v358.toNat, 0, 0]

def k0_chk36 (k0_t1 : Fin k0_t1_loop.trips) (v357 : BitVec 32) : Prop :=
  (∀ (k0_h2 : k0_cond2 k0_t1 = 1#1), ∀ a, (k0_off93 v357) a + S8x2x128.size a ≤ S131072x2x128.size a)
theorem k0_off93_inb : ∀ (k0_t1 : Fin k0_t1_loop.trips) (v357 : BitVec 32) (k0_hw36 : k0_chk36 k0_t1 v357), ∀ (k0_h2 : k0_cond2 k0_t1 = 1#1), ∀ a, (k0_off93 v357) a + S8x2x128.size a ≤ S131072x2x128.size a := fun k0_t1 v357 k0_hw36 k0_h2 => k0_hw36 k0_h2

def k0_off94 (i : grid0.Coords) : Fin 5 → Nat :=
  let arg1 : BitVec 32 := BitVec.ofNat 32 (i 1).val
  let c0_i32_421 : BitVec 32 := 0#32
  let c32_i32_422 : BitVec 32 := 32#32
  let c0_i32_423 : BitVec 32 := 0#32
  let c0_i32_424 : BitVec 32 := 0#32
  ![arg1.toNat, 0, 32, 0, 0]
def k0_off95 (v363 : BitVec 32) : Fin 3 → Nat :=
  let c8_i32_420 : BitVec 32 := 8#32
  let v364 : BitVec 32 := Scalar.muli v363 c8_i32_420
  let c0_i32_425 : BitVec 32 := 0#32
  let c0_i32_426 : BitVec 32 := 0#32
  ![v364.toNat, 0, 0]

def k0_chk37 (k0_t1 : Fin k0_t1_loop.trips) (v363 : BitVec 32) : Prop :=
  (∀ (k0_h2 : k0_cond2 k0_t1 = 1#1), ∀ a, (k0_off95 v363) a + S8x2x128.size a ≤ S131072x2x128.size a)
theorem k0_off95_inb : ∀ (k0_t1 : Fin k0_t1_loop.trips) (v363 : BitVec 32) (k0_hw37 : k0_chk37 k0_t1 v363), ∀ (k0_h2 : k0_cond2 k0_t1 = 1#1), ∀ a, (k0_off95 v363) a + S8x2x128.size a ≤ S131072x2x128.size a := fun k0_t1 v363 k0_hw37 k0_h2 => k0_hw37 k0_h2

def k0_off96 (i : grid0.Coords) : Fin 5 → Nat :=
  let arg1 : BitVec 32 := BitVec.ofNat 32 (i 1).val
  let c0_i32_428 : BitVec 32 := 0#32
  let c40_i32_429 : BitVec 32 := 40#32
  let c0_i32_430 : BitVec 32 := 0#32
  let c0_i32_431 : BitVec 32 := 0#32
  ![arg1.toNat, 0, 40, 0, 0]
def k0_off97 (v369 : BitVec 32) : Fin 3 → Nat :=
  let c8_i32_427 : BitVec 32 := 8#32
  let v370 : BitVec 32 := Scalar.muli v369 c8_i32_427
  let c0_i32_432 : BitVec 32 := 0#32
  let c0_i32_433 : BitVec 32 := 0#32
  ![v370.toNat, 0, 0]

def k0_chk38 (k0_t1 : Fin k0_t1_loop.trips) (v369 : BitVec 32) : Prop :=
  (∀ (k0_h2 : k0_cond2 k0_t1 = 1#1), ∀ a, (k0_off97 v369) a + S8x2x128.size a ≤ S131072x2x128.size a)
theorem k0_off97_inb : ∀ (k0_t1 : Fin k0_t1_loop.trips) (v369 : BitVec 32) (k0_hw38 : k0_chk38 k0_t1 v369), ∀ (k0_h2 : k0_cond2 k0_t1 = 1#1), ∀ a, (k0_off97 v369) a + S8x2x128.size a ≤ S131072x2x128.size a := fun k0_t1 v369 k0_hw38 k0_h2 => k0_hw38 k0_h2

def k0_off98 (i : grid0.Coords) : Fin 5 → Nat :=
  let arg1 : BitVec 32 := BitVec.ofNat 32 (i 1).val
  let c0_i32_435 : BitVec 32 := 0#32
  let c48_i32_436 : BitVec 32 := 48#32
  let c0_i32_437 : BitVec 32 := 0#32
  let c0_i32_438 : BitVec 32 := 0#32
  ![arg1.toNat, 0, 48, 0, 0]
def k0_off99 (v375 : BitVec 32) : Fin 3 → Nat :=
  let c8_i32_434 : BitVec 32 := 8#32
  let v376 : BitVec 32 := Scalar.muli v375 c8_i32_434
  let c0_i32_439 : BitVec 32 := 0#32
  let c0_i32_440 : BitVec 32 := 0#32
  ![v376.toNat, 0, 0]

def k0_chk39 (k0_t1 : Fin k0_t1_loop.trips) (v375 : BitVec 32) : Prop :=
  (∀ (k0_h2 : k0_cond2 k0_t1 = 1#1), ∀ a, (k0_off99 v375) a + S8x2x128.size a ≤ S131072x2x128.size a)
theorem k0_off99_inb : ∀ (k0_t1 : Fin k0_t1_loop.trips) (v375 : BitVec 32) (k0_hw39 : k0_chk39 k0_t1 v375), ∀ (k0_h2 : k0_cond2 k0_t1 = 1#1), ∀ a, (k0_off99 v375) a + S8x2x128.size a ≤ S131072x2x128.size a := fun k0_t1 v375 k0_hw39 k0_h2 => k0_hw39 k0_h2

def k0_off100 (i : grid0.Coords) : Fin 5 → Nat :=
  let arg1 : BitVec 32 := BitVec.ofNat 32 (i 1).val
  let c0_i32_442 : BitVec 32 := 0#32
  let c56_i32_443 : BitVec 32 := 56#32
  let c0_i32_444 : BitVec 32 := 0#32
  let c0_i32_445 : BitVec 32 := 0#32
  ![arg1.toNat, 0, 56, 0, 0]
def k0_off101 (v381 : BitVec 32) : Fin 3 → Nat :=
  let c8_i32_441 : BitVec 32 := 8#32
  let v382 : BitVec 32 := Scalar.muli v381 c8_i32_441
  let c0_i32_446 : BitVec 32 := 0#32
  let c0_i32_447 : BitVec 32 := 0#32
  ![v382.toNat, 0, 0]

def k0_chk40 (k0_t1 : Fin k0_t1_loop.trips) (v381 : BitVec 32) : Prop :=
  (∀ (k0_h2 : k0_cond2 k0_t1 = 1#1), ∀ a, (k0_off101 v381) a + S8x2x128.size a ≤ S131072x2x128.size a)
theorem k0_off101_inb : ∀ (k0_t1 : Fin k0_t1_loop.trips) (v381 : BitVec 32) (k0_hw40 : k0_chk40 k0_t1 v381), ∀ (k0_h2 : k0_cond2 k0_t1 = 1#1), ∀ a, (k0_off101 v381) a + S8x2x128.size a ≤ S131072x2x128.size a := fun k0_t1 v381 k0_hw40 k0_h2 => k0_hw40 k0_h2

def k0_off102 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c32_i32_448 : BitVec 32 := 32#32
  let v386 : BitVec 32 := Scalar.muli v133 c32_i32_448
  let v387 : BitVec 32 := Scalar.addi v2 v386
  let c16_i32_449 : BitVec 32 := 16#32
  let v388 : BitVec 32 := Scalar.addi v387 c16_i32_449
  let c8_i32_450 : BitVec 32 := 8#32
  let v389 : BitVec 32 := Scalar.addi v388 c8_i32_450
  let c8_i32_451 : BitVec 32 := 8#32
  let v390 : BitVec 32 := Scalar.muli v389 c8_i32_451
  let c0_i32_453 : BitVec 32 := 0#32
  let c0_i32_454 : BitVec 32 := 0#32
  ![v390.toNat, 0, 0]
def k0_off103 (i : grid0.Coords) : Fin 5 → Nat :=
  let arg1 : BitVec 32 := BitVec.ofNat 32 (i 1).val
  let c1_i32_452 : BitVec 32 := 1#32
  let c0_i32_455 : BitVec 32 := 0#32
  let c0_i32_456 : BitVec 32 := 0#32
  let c0_i32_457 : BitVec 32 := 0#32
  ![arg1.toNat, 1, 0, 0, 0]
def k0_off104 (k0_t1 : Fin k0_t1_loop.trips) : Fin 1 → Nat :=
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c1_i32_458 : BitVec 32 := 1#32
  let v394 : BitVec 32 := Scalar.addi v133 c1_i32_458
  let c32_i32_459 : BitVec 32 := 32#32
  let v395 : BitVec 32 := Scalar.muli v394 c32_i32_459
  let c16_i32_460 : BitVec 32 := 16#32
  let v396 : BitVec 32 := Scalar.addi v395 c16_i32_460
  let v397 : Index := Scalar.indexCast v396
  ![v397.toNat]
def k0_off105 (i : grid0.Coords) : Fin 5 → Nat :=
  let arg1 : BitVec 32 := BitVec.ofNat 32 (i 1).val
  let c1_i32_462 : BitVec 32 := 1#32
  let c0_i32_463 : BitVec 32 := 0#32
  let c0_i32_464 : BitVec 32 := 0#32
  let c0_i32_465 : BitVec 32 := 0#32
  ![arg1.toNat, 1, 0, 0, 0]
def k0_off106 (v401 : BitVec 32) : Fin 3 → Nat :=
  let c8_i32_461 : BitVec 32 := 8#32
  let v402 : BitVec 32 := Scalar.muli v401 c8_i32_461
  let c0_i32_466 : BitVec 32 := 0#32
  let c0_i32_467 : BitVec 32 := 0#32
  ![v402.toNat, 0, 0]

def k0_chk41 (k0_t1 : Fin k0_t1_loop.trips) (v401 : BitVec 32) : Prop :=
  (∀ (k0_h2 : k0_cond2 k0_t1 = 1#1), ∀ a, (k0_off106 v401) a + S8x2x128.size a ≤ S131072x2x128.size a)
theorem k0_off106_inb : ∀ (k0_t1 : Fin k0_t1_loop.trips) (v401 : BitVec 32) (k0_hw41 : k0_chk41 k0_t1 v401), ∀ (k0_h2 : k0_cond2 k0_t1 = 1#1), ∀ a, (k0_off106 v401) a + S8x2x128.size a ≤ S131072x2x128.size a := fun k0_t1 v401 k0_hw41 k0_h2 => k0_hw41 k0_h2

def k0_off107 (i : grid0.Coords) : Fin 5 → Nat :=
  let arg1 : BitVec 32 := BitVec.ofNat 32 (i 1).val
  let c1_i32_469 : BitVec 32 := 1#32
  let c8_i32_470 : BitVec 32 := 8#32
  let c0_i32_471 : BitVec 32 := 0#32
  let c0_i32_472 : BitVec 32 := 0#32
  ![arg1.toNat, 1, 8, 0, 0]
def k0_off108 (v407 : BitVec 32) : Fin 3 → Nat :=
  let c8_i32_468 : BitVec 32 := 8#32
  let v408 : BitVec 32 := Scalar.muli v407 c8_i32_468
  let c0_i32_473 : BitVec 32 := 0#32
  let c0_i32_474 : BitVec 32 := 0#32
  ![v408.toNat, 0, 0]

def k0_chk42 (k0_t1 : Fin k0_t1_loop.trips) (v407 : BitVec 32) : Prop :=
  (∀ (k0_h2 : k0_cond2 k0_t1 = 1#1), ∀ a, (k0_off108 v407) a + S8x2x128.size a ≤ S131072x2x128.size a)
theorem k0_off108_inb : ∀ (k0_t1 : Fin k0_t1_loop.trips) (v407 : BitVec 32) (k0_hw42 : k0_chk42 k0_t1 v407), ∀ (k0_h2 : k0_cond2 k0_t1 = 1#1), ∀ a, (k0_off108 v407) a + S8x2x128.size a ≤ S131072x2x128.size a := fun k0_t1 v407 k0_hw42 k0_h2 => k0_hw42 k0_h2

def k0_off109 (i : grid0.Coords) : Fin 5 → Nat :=
  let arg1 : BitVec 32 := BitVec.ofNat 32 (i 1).val
  let c1_i32_476 : BitVec 32 := 1#32
  let c16_i32_477 : BitVec 32 := 16#32
  let c0_i32_478 : BitVec 32 := 0#32
  let c0_i32_479 : BitVec 32 := 0#32
  ![arg1.toNat, 1, 16, 0, 0]
def k0_off110 (v413 : BitVec 32) : Fin 3 → Nat :=
  let c8_i32_475 : BitVec 32 := 8#32
  let v414 : BitVec 32 := Scalar.muli v413 c8_i32_475
  let c0_i32_480 : BitVec 32 := 0#32
  let c0_i32_481 : BitVec 32 := 0#32
  ![v414.toNat, 0, 0]

def k0_chk43 (k0_t1 : Fin k0_t1_loop.trips) (v413 : BitVec 32) : Prop :=
  (∀ (k0_h2 : k0_cond2 k0_t1 = 1#1), ∀ a, (k0_off110 v413) a + S8x2x128.size a ≤ S131072x2x128.size a)
theorem k0_off110_inb : ∀ (k0_t1 : Fin k0_t1_loop.trips) (v413 : BitVec 32) (k0_hw43 : k0_chk43 k0_t1 v413), ∀ (k0_h2 : k0_cond2 k0_t1 = 1#1), ∀ a, (k0_off110 v413) a + S8x2x128.size a ≤ S131072x2x128.size a := fun k0_t1 v413 k0_hw43 k0_h2 => k0_hw43 k0_h2

def k0_off111 (i : grid0.Coords) : Fin 5 → Nat :=
  let arg1 : BitVec 32 := BitVec.ofNat 32 (i 1).val
  let c1_i32_483 : BitVec 32 := 1#32
  let c24_i32_484 : BitVec 32 := 24#32
  let c0_i32_485 : BitVec 32 := 0#32
  let c0_i32_486 : BitVec 32 := 0#32
  ![arg1.toNat, 1, 24, 0, 0]
def k0_off112 (v419 : BitVec 32) : Fin 3 → Nat :=
  let c8_i32_482 : BitVec 32 := 8#32
  let v420 : BitVec 32 := Scalar.muli v419 c8_i32_482
  let c0_i32_487 : BitVec 32 := 0#32
  let c0_i32_488 : BitVec 32 := 0#32
  ![v420.toNat, 0, 0]

def k0_chk44 (k0_t1 : Fin k0_t1_loop.trips) (v419 : BitVec 32) : Prop :=
  (∀ (k0_h2 : k0_cond2 k0_t1 = 1#1), ∀ a, (k0_off112 v419) a + S8x2x128.size a ≤ S131072x2x128.size a)
theorem k0_off112_inb : ∀ (k0_t1 : Fin k0_t1_loop.trips) (v419 : BitVec 32) (k0_hw44 : k0_chk44 k0_t1 v419), ∀ (k0_h2 : k0_cond2 k0_t1 = 1#1), ∀ a, (k0_off112 v419) a + S8x2x128.size a ≤ S131072x2x128.size a := fun k0_t1 v419 k0_hw44 k0_h2 => k0_hw44 k0_h2

def k0_off113 (i : grid0.Coords) : Fin 5 → Nat :=
  let arg1 : BitVec 32 := BitVec.ofNat 32 (i 1).val
  let c1_i32_490 : BitVec 32 := 1#32
  let c32_i32_491 : BitVec 32 := 32#32
  let c0_i32_492 : BitVec 32 := 0#32
  let c0_i32_493 : BitVec 32 := 0#32
  ![arg1.toNat, 1, 32, 0, 0]
def k0_off114 (v425 : BitVec 32) : Fin 3 → Nat :=
  let c8_i32_489 : BitVec 32 := 8#32
  let v426 : BitVec 32 := Scalar.muli v425 c8_i32_489
  let c0_i32_494 : BitVec 32 := 0#32
  let c0_i32_495 : BitVec 32 := 0#32
  ![v426.toNat, 0, 0]

def k0_chk45 (k0_t1 : Fin k0_t1_loop.trips) (v425 : BitVec 32) : Prop :=
  (∀ (k0_h2 : k0_cond2 k0_t1 = 1#1), ∀ a, (k0_off114 v425) a + S8x2x128.size a ≤ S131072x2x128.size a)
theorem k0_off114_inb : ∀ (k0_t1 : Fin k0_t1_loop.trips) (v425 : BitVec 32) (k0_hw45 : k0_chk45 k0_t1 v425), ∀ (k0_h2 : k0_cond2 k0_t1 = 1#1), ∀ a, (k0_off114 v425) a + S8x2x128.size a ≤ S131072x2x128.size a := fun k0_t1 v425 k0_hw45 k0_h2 => k0_hw45 k0_h2

def k0_off115 (i : grid0.Coords) : Fin 5 → Nat :=
  let arg1 : BitVec 32 := BitVec.ofNat 32 (i 1).val
  let c1_i32_497 : BitVec 32 := 1#32
  let c40_i32_498 : BitVec 32 := 40#32
  let c0_i32_499 : BitVec 32 := 0#32
  let c0_i32_500 : BitVec 32 := 0#32
  ![arg1.toNat, 1, 40, 0, 0]
def k0_off116 (v431 : BitVec 32) : Fin 3 → Nat :=
  let c8_i32_496 : BitVec 32 := 8#32
  let v432 : BitVec 32 := Scalar.muli v431 c8_i32_496
  let c0_i32_501 : BitVec 32 := 0#32
  let c0_i32_502 : BitVec 32 := 0#32
  ![v432.toNat, 0, 0]

def k0_chk46 (k0_t1 : Fin k0_t1_loop.trips) (v431 : BitVec 32) : Prop :=
  (∀ (k0_h2 : k0_cond2 k0_t1 = 1#1), ∀ a, (k0_off116 v431) a + S8x2x128.size a ≤ S131072x2x128.size a)
theorem k0_off116_inb : ∀ (k0_t1 : Fin k0_t1_loop.trips) (v431 : BitVec 32) (k0_hw46 : k0_chk46 k0_t1 v431), ∀ (k0_h2 : k0_cond2 k0_t1 = 1#1), ∀ a, (k0_off116 v431) a + S8x2x128.size a ≤ S131072x2x128.size a := fun k0_t1 v431 k0_hw46 k0_h2 => k0_hw46 k0_h2

def k0_off117 (i : grid0.Coords) : Fin 5 → Nat :=
  let arg1 : BitVec 32 := BitVec.ofNat 32 (i 1).val
  let c1_i32_504 : BitVec 32 := 1#32
  let c48_i32_505 : BitVec 32 := 48#32
  let c0_i32_506 : BitVec 32 := 0#32
  let c0_i32_507 : BitVec 32 := 0#32
  ![arg1.toNat, 1, 48, 0, 0]
def k0_off118 (v437 : BitVec 32) : Fin 3 → Nat :=
  let c8_i32_503 : BitVec 32 := 8#32
  let v438 : BitVec 32 := Scalar.muli v437 c8_i32_503
  let c0_i32_508 : BitVec 32 := 0#32
  let c0_i32_509 : BitVec 32 := 0#32
  ![v438.toNat, 0, 0]

def k0_chk47 (k0_t1 : Fin k0_t1_loop.trips) (v437 : BitVec 32) : Prop :=
  (∀ (k0_h2 : k0_cond2 k0_t1 = 1#1), ∀ a, (k0_off118 v437) a + S8x2x128.size a ≤ S131072x2x128.size a)
theorem k0_off118_inb : ∀ (k0_t1 : Fin k0_t1_loop.trips) (v437 : BitVec 32) (k0_hw47 : k0_chk47 k0_t1 v437), ∀ (k0_h2 : k0_cond2 k0_t1 = 1#1), ∀ a, (k0_off118 v437) a + S8x2x128.size a ≤ S131072x2x128.size a := fun k0_t1 v437 k0_hw47 k0_h2 => k0_hw47 k0_h2

def k0_off119 (i : grid0.Coords) : Fin 5 → Nat :=
  let arg1 : BitVec 32 := BitVec.ofNat 32 (i 1).val
  let c1_i32_511 : BitVec 32 := 1#32
  let c56_i32_512 : BitVec 32 := 56#32
  let c0_i32_513 : BitVec 32 := 0#32
  let c0_i32_514 : BitVec 32 := 0#32
  ![arg1.toNat, 1, 56, 0, 0]
def k0_off120 (v443 : BitVec 32) : Fin 3 → Nat :=
  let c8_i32_510 : BitVec 32 := 8#32
  let v444 : BitVec 32 := Scalar.muli v443 c8_i32_510
  let c0_i32_515 : BitVec 32 := 0#32
  let c0_i32_516 : BitVec 32 := 0#32
  ![v444.toNat, 0, 0]

def k0_chk48 (k0_t1 : Fin k0_t1_loop.trips) (v443 : BitVec 32) : Prop :=
  (∀ (k0_h2 : k0_cond2 k0_t1 = 1#1), ∀ a, (k0_off120 v443) a + S8x2x128.size a ≤ S131072x2x128.size a)
theorem k0_off120_inb : ∀ (k0_t1 : Fin k0_t1_loop.trips) (v443 : BitVec 32) (k0_hw48 : k0_chk48 k0_t1 v443), ∀ (k0_h2 : k0_cond2 k0_t1 = 1#1), ∀ a, (k0_off120 v443) a + S8x2x128.size a ≤ S131072x2x128.size a := fun k0_t1 v443 k0_hw48 k0_h2 => k0_hw48 k0_h2

def k0_off121 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c32_i32_517 : BitVec 32 := 32#32
  let v448 : BitVec 32 := Scalar.muli v133 c32_i32_517
  let v449 : BitVec 32 := Scalar.addi v2 v448
  let c8_i32_518 : BitVec 32 := 8#32
  let v450 : BitVec 32 := Scalar.muli v449 c8_i32_518
  let c0_i32_519 : BitVec 32 := 0#32
  let c0_i32_520 : BitVec 32 := 0#32
  ![v450.toNat, 0, 0]
def k0_off122 (k0_t1 : Fin k0_t1_loop.trips) : Fin 1 → Nat :=
  let c0_i32_113 : BitVec 32 := 0#32
  let c1_i32_115 : BitVec 32 := 1#32
  let arg19 : BitVec 32 := Scf.iv c0_i32_113 c1_i32_115 k0_t1
  let c2_i32_147 : BitVec 32 := 2#32
  let v132 : BitVec 32 := Scalar.muli arg19 c2_i32_147
  let c1_i32_148 : BitVec 32 := 1#32
  let v133 : BitVec 32 := Scalar.addi v132 c1_i32_148
  let c2_i32_523 : BitVec 32 := 2#32
  let v453 : BitVec 32 := Scalar.addi v133 c2_i32_523
  let c32_i32_524 : BitVec 32 := 32#32
  let v454 : BitVec 32 := Scalar.muli v453 c32_i32_524
  let c8_i32_525 : BitVec 32 := 8#32
  let v455 : BitVec 32 := Scalar.muli v454 c8_i32_525
  ![v455.toNat]
def k0_off123 (i : grid0.Coords) (c448_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v110 : BitVec 32 := Scalar.addi v2 c448_i32
  let c8_i32_117 : BitVec 32 := 8#32
  let v111 : BitVec 32 := Scalar.muli v110 c8_i32_117
  let c0_i32_118 : BitVec 32 := 0#32
  let c0_i32_119 : BitVec 32 := 0#32
  ![v111.toNat, 0, 0]
def k0_off124 (i : grid0.Coords) (c0_i32_129 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c480_i32_127 : BitVec 32 := 480#32
  let v118 : BitVec 32 := Scalar.addi v2 c480_i32_127
  let c16_i32_128 : BitVec 32 := 16#32
  let v119 : BitVec 32 := Scalar.addi v118 c16_i32_128
  let v120 : BitVec 32 := Scalar.addi v119 c0_i32_129
  let c8_i32_130 : BitVec 32 := 8#32
  let v121 : BitVec 32 := Scalar.muli v120 c8_i32_130
  let c0_i32_132 : BitVec 32 := 0#32
  let c0_i32_133 : BitVec 32 := 0#32
  ![v121.toNat, 0, 0]
def k0_off125 (i : grid0.Coords) : Fin 5 → Nat :=
  let arg1 : BitVec 32 := BitVec.ofNat 32 (i 1).val
  let c0_i32_131 : BitVec 32 := 0#32
  let c0_i32_134 : BitVec 32 := 0#32
  let c0_i32_135 : BitVec 32 := 0#32
  let c0_i32_136 : BitVec 32 := 0#32
  ![arg1.toNat, 0, 0, 0, 0]
def k0_off126 (i : grid0.Coords) : Fin 5 → Nat :=
  let arg1 : BitVec 32 := BitVec.ofNat 32 (i 1).val
  let c1_i32_141 : BitVec 32 := 1#32
  let c0_i32_144 : BitVec 32 := 0#32
  let c0_i32_145 : BitVec 32 := 0#32
  let c0_i32_146 : BitVec 32 := 0#32
  ![arg1.toNat, 1, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S4x4096x2048, .f32⟩
  | .hbm, ⟨21, _⟩ => ⟨S4x4096x2048, .i1⟩
  | .hbm, ⟨22, _⟩ => ⟨S_, .f32⟩
  | .hbm, ⟨23, _⟩ => ⟨S4x4096x2048, .f32⟩
  | .hbm, ⟨24, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Common.lean ====
/-
  The setting of the run: the program as the launch theorem sees it, the memrefs of one tile's task, the index
  sets its copies address, and the one function `G` every copy's contents are a piece of.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Batch
public import Idealize.ShloMosaic.Lib.ValueLayout
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tabLoc (d : Dev nD) : Loc nD τ sig := (SparseCore.T d).loc main_v0
abbrev idxLoc (d : Dev nD) : Loc nD τ sig := (SparseCore.T d).loc main_c
abbrev ibLoc (d : Dev nD) : Loc nD τ sig := (SparseCore.T d).loc main_v9
abbrev outLoc (d : Dev nD) : Loc nD τ sig := (SparseCore.T d).loc main_v10

abbrev tabV : Memref sig Kind.scVector Space.hbm S131072x2x128 EltTy.f32 := Memref.whole main_v0_scv
abbrev idxV : Memref sig Kind.scVector Space.hbm S16384 EltTy.i32 := Memref.whole main_c_scv
abbrev ibV : Memref sig Kind.scVector Space.hbm S131072 EltTy.i32 := Memref.whole main_v9_scv
abbrev outV : Memref sig Kind.scVector Space.hbm S131072x2x128 EltTy.f32 := Memref.whole main_v10_scv
abbrev ixV : Memref sig Kind.scVector Space.vmem S512 EltTy.i32 := Memref.whole cc0_scratch0
abbrev lsV : Memref sig Kind.scVector Space.vmem S4096 EltTy.i32 := Memref.whole cc0_scratch1
abbrev buf0V : Memref sig Kind.scVector Space.vmem S128x2x128 EltTy.f32 := Memref.whole cc0_scratch2
abbrev buf1V : Memref sig Kind.scVector Space.vmem S128x2x128 EltTy.f32 := Memref.whole cc0_scratch3
abbrev shV : Memref sig Kind.scVector Space.shared S16x2x64x2x128 EltTy.f32 := Memref.whole cc0_scratch4

abbrev shRef (c : Fin τ.nSC) : DevRef τ sig := ⟨.shared, ⟨0, by decide⟩, c⟩
abbrev shLoc (d : Dev nD) (c : Fin τ.nSC) : Loc nD τ sig := (d, shRef c)

abbrev cV (L : grid0.Coords) : Fin τ.nSC := (L 0).castLE hcore0
abbrev jV (L : grid0.Coords) : Fin τ.nSub := (L 1).castLE hsub0
/-- The tile at coordinates `L` of device `d`. -/
abbrev thr (d : Dev nD) (L : grid0.Coords) : Thread nD τ := V d (cV L) (jV L)

/-! ## Indices named by natural numbers, taken modulo the extents -/

abbrev at1 {n : ℕ} [NeZero n] (a : ℕ) : (⟨1, ![n]⟩ : Shape).Idx := fun k => match k with | 0 => Fin.ofNat n a
abbrev at3 {n m l : ℕ} [NeZero n] [NeZero m] [NeZero l] (a b c : ℕ) : (⟨3, ![n, m, l]⟩ : Shape).Idx :=
  fun k => match k with | 0 => Fin.ofNat n a | 1 => Fin.ofNat m b | 2 => Fin.ofNat l c

theorem at1_eq {n : ℕ} [NeZero n] (x : (⟨1, ![n]⟩ : Shape).Idx) (a : ℕ) (h : (x 0).val = a) : x = at1 a := by
  funext k
  match k with
  | 0 => exact Fin.ext (by subst h; exact (Nat.mod_eq_of_lt (x 0).isLt).symm)

theorem at3_eq {n m l : ℕ} [NeZero n] [NeZero m] [NeZero l] (x : (⟨3, ![n, m, l]⟩ : Shape).Idx) (a b c : ℕ)
    (h0 : (x 0).val = a) (h1 : (x 1).val = b) (h2 : (x 2).val = c) : x = at3 a b c := by
  funext k
  match k with
  | 0 => exact Fin.ext (by subst h0; exact (Nat.mod_eq_of_lt (x 0).isLt).symm)
  | 1 => exact Fin.ext (by subst h1; exact (Nat.mod_eq_of_lt (x 1).isLt).symm)
  | 2 => exact Fin.ext (by subst h2; exact (Nat.mod_eq_of_lt (x 2).isLt).symm)

/-! ## Element sets -/

/-- Rows `a` to `a + n` of the table, or of the output. -/
def rowsFrom (a n : ℕ) : Finset S131072x2x128.Idx := Finset.univ.filter fun x => a ≤ (x 0).val ∧ (x 0).val < a + n
/-- Rows `a` to `a + n` of block `(s, j)` of the shared scratch. -/
def shRows (s j a n : ℕ) : Finset S16x2x64x2x128.Idx :=
  Finset.univ.filter fun x => (x 0).val = s ∧ (x 1).val = j ∧ a ≤ (x 2).val ∧ (x 2).val < a + n

theorem mem_rowsFrom {a n : ℕ} {x : S131072x2x128.Idx} : x ∈ rowsFrom a n ↔ a ≤ (x 0).val ∧ (x 0).val < a + n := by
  simp [rowsFrom]
theorem mem_shRows {s j a n : ℕ} {x : S16x2x64x2x128.Idx} :
    x ∈ shRows s j a n ↔ (x 0).val = s ∧ (x 1).val = j ∧ a ≤ (x 2).val ∧ (x 2).val < a + n := by
  simp [shRows]

/-! ## Contents -/

section Contents

variable (fT : S131072x2x128.Idx → Elt F .f32) (fI : S16384.Idx → BitVec 32) (fB : S131072.Idx → BitVec 32)

/-- The output: row `x` of it is the row of the table the expanded list names there. -/
def G : S131072x2x128.Idx → Elt F .f32 := fun x => fT (at3 (fB (at1 (x 0).val)).toNat (x 1).val (x 2).val)

/-- What the two lists satisfy: each row number names a row, and the expanded list is eight consecutive rows for each. -/
structure Lists : Prop where
  lt : ∀ k, (fI k).toNat < 16384
  expand : ∀ k r : ℕ, k < 16384 → r < 8 → (fB (at1 (8 * k + r))).toNat = 8 * (fI (at1 k)).toNat + r

/-- The first of a tile's row numbers, and the first of its rows of the output. -/
def ib (L : grid0.Coords) : ℕ := 1024 * (L 1).val + 512 * (L 0).val
def rb (L : grid0.Coords) : ℕ := 8192 * (L 1).val + 4096 * (L 0).val

theorem rb_eq (L : grid0.Coords) : rb L = 8 * ib L := by unfold rb ib; omega
theorem ib_le (L : grid0.Coords) : ib L + 512 ≤ 16384 := by
  have h0 : (L 0).val < 2 := (L 0).isLt
  have h1 : (L 1).val < 16 := (L 1).isLt
  unfold ib; omega
theorem rb_le (L : grid0.Coords) : rb L + 4096 ≤ 131072 := by have := ib_le L; rw [rb_eq]; omega

/-- What one tile's index scratch and its expanded list hold. -/
def ixC (L : grid0.Coords) : S512.Idx → BitVec 32 := fun x => fI (at1 (ib L + (x 0).val))
def lsC (L : grid0.Coords) : S4096.Idx → BitVec 32 := fun x => fB (at1 (rb L + (x 0).val))
/-- What chunk `i`'s row buffer holds once gathered, and its blocks of the shared scratch. -/
def bufG (L : grid0.Coords) (i : ℕ) : S128x2x128.Idx → Elt F .f32 := fun x => G fT fB (at3 (rb L + 256 * i + (x 0).val) (x 1).val (x 2).val)
def shG (L : grid0.Coords) (i : ℕ) : S16x2x64x2x128.Idx → Elt F .f32 :=
  fun z => G fT fB (at3 (rb L + 256 * i + 128 + 64 * (z 1).val + (z 2).val) (z 3).val (z 4).val)

end Contents

end Cert.Proof.Gather

end
-- ==== Proof.Windows.lean ====
/-
  The element sets of the windows one tile's copies address, and what each copy leaves: in every case a piece of `G`.
-/
module

public import proofs.«01_k».proof.Proof.Common

@[expose] public section

noncomputable section

namespace Cert.Proof.Gather

open Cert.KernelIdeal Cert.KernelIdeal.Gen
open Idealize.ShloMosaic Idealize.ShloMosaic.ValueIdx
open Idealize.SL.Sem

variable {F : FTy → Type}

/-! ## The sets -/

theorem emb_rows {n a : ℕ} {off : Fin 3 → ℕ} (h : off = ![a, 0, 0]) (inb : ∀ k, off k + (![n, 2, 128] : Fin 3 → ℕ) k ≤ S131072x2x128.size k)
    (x : (⟨3, ![n, 2, 128]⟩ : Shape).Idx) :
    (Rect.unit (s := S131072x2x128) off ![n, 2, 128] inb).emb x = at3 (a + (x 0).val) (x 1).val (x 2).val := by
  subst h
  refine at3_eq _ _ _ _ ?_ ?_ ?_
  · show a + 1 * (x 0).val = _; omega
  · show 0 + 1 * (x 1).val = _; omega
  · show 0 + 1 * (x 2).val = _; omega

theorem rect_rows {n a : ℕ} {off : Fin 3 → ℕ} (h : off = ![a, 0, 0]) (inb : ∀ k, off k + (![n, 2, 128] : Fin 3 → ℕ) k ≤ S131072x2x128.size k) :
    (Rect.unit (s := S131072x2x128) off ![n, 2, 128] inb).set = rowsFrom a n := by
  ext z
  rw [← Rect.map_emb_univ, Finset.mem_map, mem_rowsFrom]
  subst h
  constructor
  · rintro ⟨x, -, rfl⟩
    have hx : (x 0).val < n := (x 0).isLt
    have e : ((Rect.unit (s := S131072x2x128) ![a, 0, 0] ![n, 2, 128] inb).emb x 0).val = a + 1 * (x 0).val := rfl
    omega
  · rintro ⟨h1, h2⟩
    refine ⟨fun k => match k with | 0 => ⟨(z 0).val - a, by show (z 0).val - a < n; omega⟩ | 1 => z 1 | 2 => z 2, Finset.mem_univ _, ?_⟩
    funext k
    match k with
    | 0 => exact Fin.ext (by show a + 1 * ((z 0).val - a) = _; omega)
    | 1 => exact Fin.ext (by show 0 + 1 * (z 1).val = _; omega)
    | 2 => exact Fin.ext (by show 0 + 1 * (z 2).val = _; omega)

theorem set_tab {n a : ℕ} {off : Fin 3 → ℕ} (h : off = ![a, 0, 0]) (inb : ∀ k, off k + (![n, 2, 128] : Fin 3 → ℕ) k ≤ S131072x2x128.size k) :
    (tabV.view.slice (Rect.unit (s := S131072x2x128) off ![n, 2, 128] inb)).set = rowsFrom a n := by
  refine Eq.trans ?_ (rect_rows h inb)
  exact View.set_slice_whole main_v0_scv (Rect.unit (s := S131072x2x128) off ![n, 2, 128] inb)

theorem set_out {n a : ℕ} {off : Fin 3 → ℕ} (h : off = ![a, 0, 0]) (inb : ∀ k, off k + (![n, 2, 128] : Fin 3 → ℕ) k ≤ S131072x2x128.size k) :
    (outV.view.slice (Rect.unit (s := S131072x2x128) off ![n, 2, 128] inb)).set = rowsFrom a n := by
  refine Eq.trans ?_ (rect_rows h inb)
  exact View.set_slice_whole main_v10_scv (Rect.unit (s := S131072x2x128) off ![n, 2, 128] inb)

/-- A block of the shared scratch, squeezed to its three last axes: where its elements lie. -/
theorem emb_sh {n s j a : ℕ} {off : Fin 5 → ℕ} (h : off = ![s, j, a, 0, 0])
    (inb : ∀ k, off k + (![1, 1, n, 2, 128] : Fin 5 → ℕ) k ≤ S16x2x64x2x128.size k)
    (hq : (⟨3, ![n, 2, 128]⟩ : Shape).numel = (⟨5, ![1, 1, n, 2, 128]⟩ : Shape).numel) (x : (⟨3, ![n, 2, 128]⟩ : Shape).Idx)
    (z : S16x2x64x2x128.Idx) (hz : (Rect.unit (s := S16x2x64x2x128) off ![1, 1, n, 2, 128] inb).emb (Shape.reshapeEquiv hq x) = z) :
    (z 0).val = s ∧ (z 1).val = j ∧ (z 2).val = a + (x 0).val ∧ (z 3).val = (x 1).val ∧ (z 4).val = (x 2).val := by
  subst h; subst hz
  have hx : x = ix3 (x 0) (x 1) (x 2) := by
    funext k
    match k with
    | 0 => rfl
    | 1 => rfl
    | 2 => rfl
  have e : Shape.reshapeEquiv hq x = ix5 (⟨0, Nat.one_pos⟩ : Fin 1) (⟨0, Nat.one_pos⟩ : Fin 1) (x 0) (x 1) (x 2) :=
    (congrArg (Shape.reshapeEquiv hq) hx).trans (reshapeEquiv_ix3_11abc hq (x 0) (x 1) (x 2))
  rw [e]
  refine ⟨?_, ?_, ?_, ?_, ?_⟩
  · show s + 1 * 0 = s; omega
  · show j + 1 * 0 = j; omega
  · show a + 1 * (x 0).val = _; omega
  · show 0 + 1 * (x 1).val = _; omega
  · show 0 + 1 * (x 2).val = _; omega

theorem rect_sh {n s j a : ℕ} {off : Fin 5 → ℕ} (h : off = ![s, j, a, 0, 0])
    (inb : ∀ k, off k + (![1, 1, n, 2, 128] : Fin 5 → ℕ) k ≤ S16x2x64x2x128.size k) :
    (Rect.unit (s := S16x2x64x2x128) off ![1, 1, n, 2, 128] inb).set = shRows s j a n := by
  ext z
  rw [← Rect.map_emb_univ, Finset.mem_map, mem_shRows]
  subst h
  constructor
  · rintro ⟨x, -, rfl⟩
    have hx0 : (x 0).val < 1 := (x 0).isLt
    have hx1 : (x 1).val < 1 := (x 1).isLt
    have hx2 : (x 2).val < n := (x 2).isLt
    have e0 : ((Rect.unit (s := S16x2x64x2x128) ![s, j, a, 0, 0] ![1, 1, n, 2, 128] inb).emb x 0).val = s + 1 * (x 0).val := rfl
    have e1 : ((Rect.unit (s := S16x2x64x2x128) ![s, j, a, 0, 0] ![1, 1, n, 2, 128] inb).emb x 1).val = j + 1 * (x 1).val := rfl
    have e2 : ((Rect.unit (s := S16x2x64x2x128) ![s, j, a, 0, 0] ![1, 1, n, 2, 128] inb).emb x 2).val = a + 1 * (x 2).val := rfl
    omega
  · rintro ⟨h0, h1, h2, h3⟩
    refine ⟨fun k => match k with
      | 0 => ⟨0, Nat.one_pos⟩ | 1 => ⟨0, Nat.one_pos⟩ | 2 => ⟨(z 2).val - a, by show (z 2).val - a < n; omega⟩ | 3 => z 3 | 4 => z 4, Finset.mem_univ _, ?_⟩
    funext k
    match k with
    | 0 => exact Fin.ext (by show s + 1 * 0 = _; omega)
    | 1 => exact Fin.ext (by show j + 1 * 0 = _; omega)
    | 2 => exact Fin.ext (by show a + 1 * ((z 2).val - a) = _; omega)
    | 3 => exact Fin.ext (by show 0 + 1 * (z 3).val = _; omega)
    | 4 => exact Fin.ext (by show 0 + 1 * (z 4).val = _; omega)

theorem set_sh {n s j a : ℕ} {off : Fin 5 → ℕ} (h : off = ![s, j, a, 0, 0])
    (inb : ∀ k, off k + (![1, 1, n, 2, 128] : Fin 5 → ℕ) k ≤ S16x2x64x2x128.size k)
    (hq : (⟨3, ![n, 2, 128]⟩ : Shape).numel = (⟨5, ![1, 1, n, 2, 128]⟩ : Shape).numel) :
    ((shV.view.slice (Rect.unit (s := S16x2x64x2x128) off ![1, 1, n, 2, 128] inb)).reshape ⟨3, ![n, 2, 128]⟩ hq).set = shRows s j a n := by
  rw [View.set_reshape]
  refine Eq.trans ?_ (rect_sh h inb)
  exact View.set_slice_whole cc0_scratch4 (Rect.unit (s := S16x2x64x2x128) off ![1, 1, n, 2, 128] inb)

/-! ## What the copies leave -/

section Leaves

variable (L : grid0.Coords) (fT : S131072x2x128.Idx → Elt F .f32) (fI : S16384.Idx → BitVec 32) (fB : S131072.Idx → BitVec 32)

/-- A write through a view, at one of its elements. -/
theorem write_at {sp : Space} {s : Shape} {e : EltTy} {Val : EltTy → Type} (v : View sig Kind.scVector sp s e) (fd : v.ty.Contents Val) (w : s.Idx → Val e)
    (g : v.ty.Contents Val) (h : ∀ x, cast (congrArg Val v.elt_eq.symm) (w x) = g (v.emb x)) :
    ∀ z ∈ v.set, v.write Val fd w Finset.univ z = g z := by
  intro z hz
  obtain ⟨x, -, rfl⟩ := Finset.mem_map.mp hz
  rw [View.write_emb_of_mem _ _ (Finset.mem_univ x), h]

theorem G_at {a b c r : ℕ} (ha : a < 131072) (hb : b < 2) (hc : c < 128) (hr : (fB (at1 a)).toNat = r) : G fT fB (at3 a b c) = fT (at3 r b c) := by
  unfold G
  have e0 : ((at3 a b c : S131072x2x128.Idx) 0).val = a := Nat.mod_eq_of_lt ha
  have e1 : ((at3 a b c : S131072x2x128.Idx) 1).val = b := Nat.mod_eq_of_lt hb
  have e2 : ((at3 a b c : S131072x2x128.Idx) 2).val = c := Nat.mod_eq_of_lt hc
  rw [e0, e1, e2, hr]

/-- A block of eight rows copied from the table into the shared scratch. -/
theorem leaves_row (hL : Lists fI fB) (s j i kk : ℕ) (hj : j < 2) (hi : i < 16) (hk : kk < 8) (v : BitVec 32)
    (hv : v = fI (at1 (ib L + 32 * i + 16 + 8 * j + kk)))
    {offT : Fin 3 → ℕ} (hT : offT = ![8 * v.toNat, 0, 0]) (inbT : ∀ k, offT k + (![8, 2, 128] : Fin 3 → ℕ) k ≤ S131072x2x128.size k)
    {offS : Fin 5 → ℕ} (hS : offS = ![s, j, 8 * kk, 0, 0]) (inbS : ∀ k, offS k + (![1, 1, 8, 2, 128] : Fin 5 → ℕ) k ≤ S16x2x64x2x128.size k)
    (hq : (⟨3, ![8, 2, 128]⟩ : Shape).numel = (⟨5, ![1, 1, 8, 2, 128]⟩ : Shape).numel)
    (fd : S16x2x64x2x128.Idx → Elt F .f32) :
    ∀ z ∈ shRows s j (8 * kk) 8,
      ((shV.view.slice (Rect.unit (s := S16x2x64x2x128) offS ![1, 1, 8, 2, 128] inbS)).reshape ⟨3, ![8, 2, 128]⟩ hq).write (Elt F) fd
        ((tabV.view.slice (Rect.unit (s := S131072x2x128) offT ![8, 2, 128] inbT)).read (Elt F) fT) Finset.univ z = shG fT fB L i z := by
  rw [← set_sh hS inbS hq]
  refine write_at (Val := Elt F) ((shV.view.slice (Rect.unit (s := S16x2x64x2x128) offS ![1, 1, 8, 2, 128] inbS)).reshape ⟨3, ![8, 2, 128]⟩ hq) fd _ (shG fT fB L i) fun x => ?_
  have hx0 : (x 0).val < 8 := (x 0).isLt
  have hx1 : (x 1).val < 2 := (x 1).isLt
  have hx2 : (x 2).val < 128 := (x 2).isLt
  obtain ⟨-, h1, h2, h3, h4⟩ := emb_sh hS inbS hq x _ rfl
  have hib := ib_le L
  have key : shG fT fB L i ((Rect.unit (s := S16x2x64x2x128) offS ![1, 1, 8, 2, 128] inbS).emb (Shape.reshapeEquiv hq x))
      = fT (at3 (8 * v.toNat + (x 0).val) (x 1).val (x 2).val) := by
    unfold shG
    rw [h1, h2, h3, h4, rb_eq]
    refine G_at fT fB (by omega) hx1 hx2 ?_
    rw [hv, show 8 * ib L + 256 * i + 128 + 64 * j + (8 * kk + (x 0).val) = 8 * (ib L + 32 * i + 16 + 8 * j + kk) + (x 0).val by ring]
    exact hL.expand _ _ (by omega) hx0
  refine Eq.trans ?_ key.symm
  show fT ((Rect.unit (s := S131072x2x128) offT ![8, 2, 128] inbT).emb x) = _
  rw [emb_rows hT inbT x]

/-- A gathered chunk of rows written out of the row buffer. -/
theorem leaves_outA (b : Bool) (i : ℕ) {off : Fin 3 → ℕ} (h : off = ![rb L + 256 * i, 0, 0])
    (inb : ∀ k, off k + (![128, 2, 128] : Fin 3 → ℕ) k ≤ S131072x2x128.size k) (fd : S131072x2x128.Idx → Elt F .f32) :
    ∀ z ∈ rowsFrom (rb L + 256 * i) 128,
      (outV.view.slice (Rect.unit (s := S131072x2x128) off ![128, 2, 128] inb)).write (Elt F) fd (bufG fT fB L i) Finset.univ z = G fT fB z := by
  rw [← set_out h inb]
  refine write_at (Val := Elt F) (outV.view.slice (Rect.unit (s := S131072x2x128) off ![128, 2, 128] inb)) fd _ (G fT fB) fun x => ?_
  show G fT fB _ = G fT fB ((Rect.unit (s := S131072x2x128) off ![128, 2, 128] inb).emb x)
  rw [emb_rows h inb x]

/-- A block of the shared scratch written out. -/
theorem leaves_outB (s j i : ℕ) {off : Fin 3 → ℕ} (h : off = ![rb L + 256 * i + 128 + 64 * j, 0, 0])
    (inb : ∀ k, off k + (![64, 2, 128] : Fin 3 → ℕ) k ≤ S131072x2x128.size k)
    {offS : Fin 5 → ℕ} (hS : offS = ![s, j, 0, 0, 0]) (inbS : ∀ k, offS k + (![1, 1, 64, 2, 128] : Fin 5 → ℕ) k ≤ S16x2x64x2x128.size k)
    (hq : (⟨3, ![64, 2, 128]⟩ : Shape).numel = (⟨5, ![1, 1, 64, 2, 128]⟩ : Shape).numel) (fd : S131072x2x128.Idx → Elt F .f32) :
    ∀ z ∈ rowsFrom (rb L + 256 * i + 128 + 64 * j) 64,
      (outV.view.slice (Rect.unit (s := S131072x2x128) off ![64, 2, 128] inb)).write (Elt F) fd
        (((shV.view.slice (Rect.unit (s := S16x2x64x2x128) offS ![1, 1, 64, 2, 128] inbS)).reshape ⟨3, ![64, 2, 128]⟩ hq).read (Elt F) (shG fT fB L i)) Finset.univ z
      = G fT fB z := by
  rw [← set_out h inb]
  refine write_at (Val := Elt F) (outV.view.slice (Rect.unit (s := S131072x2x128) off ![64, 2, 128] inb)) fd _ (G fT fB) fun x => ?_
  obtain ⟨-, h1, h2, h3, h4⟩ := emb_sh hS inbS hq x _ rfl
  show shG fT fB L i ((Rect.unit (s := S16x2x64x2x128) offS ![1, 1, 64, 2, 128] inbS).emb (Shape.reshapeEquiv hq x))
    = G fT fB ((Rect.unit (s := S131072x2x128) off ![64, 2, 128] inb).emb x)
  rw [emb_rows h inb x]
  unfold shG
  rw [h1, h2, h3, h4, Nat.zero_add]

/-- The tile's row numbers fetched into its index scratch. -/
theorem leaves_ix {off : Fin 1 → ℕ} (h : off = ![ib L]) (inb : ∀ k, off k + S512.size k ≤ S16384.size k) (fd : S512.Idx → BitVec 32) :
    ixV.view.write (Elt F) fd ((idxV.view.slice (Rect.unit (s := S16384) off S512.size inb)).read (Elt F) fI) Finset.univ = ixC fI L := by
  subst h
  funext z
  refine write_at (Val := Elt F) ixV.view fd _ (ixC fI L) (fun x => ?_) z (Finset.mem_map.mpr ⟨z, Finset.mem_univ _, rfl⟩)
  show fI ((Rect.unit (s := S16384) ![ib L] S512.size inb).emb x) = fI _
  exact congrArg fI (at1_eq _ _ (by show ib L + 1 * (x 0).val = _; rw [Nat.one_mul]; rfl))

/-- The tile's stretch of the expanded list fetched into its scratch. -/
theorem leaves_ls {off : Fin 1 → ℕ} (h : off = ![rb L]) (inb : ∀ k, off k + S4096.size k ≤ S131072.size k) (fd : S4096.Idx → BitVec 32) :
    lsV.view.write (Elt F) fd ((ibV.view.slice (Rect.unit (s := S131072) off S4096.size inb)).read (Elt F) fB) Finset.univ = lsC fB L := by
  subst h
  funext z
  refine write_at (Val := Elt F) lsV.view fd _ (lsC fB L) (fun x => ?_) z (Finset.mem_map.mpr ⟨z, Finset.mem_univ _, rfl⟩)
  show fB ((Rect.unit (s := S131072) ![rb L] S4096.size inb).emb x) = fB _
  exact congrArg fB (at1_eq _ _ (by show rb L + 1 * (x 0).val = _; rw [Nat.one_mul]; rfl))

/-- Sixteen row numbers loaded. -/
theorem loaded {a : ℕ} {off : Fin 1 → ℕ} (h : off = ![a]) (inb : ∀ k, off k + S16.size k ≤ S512.size k) (x : S16.Idx) :
    ixV.view.readAt (Elt F) (Rect.unit (s := S512) off S16.size inb).toLoadRect (ixC fI L) x = fI (at1 (ib L + a + (x 0).val)) := by
  subst h
  show ixC fI L ((Rect.unit (s := S512) ![a] S16.size inb).toLoadRect.idx x) = _
  unfold ixC
  congr 2
  show ib L + (a + 1 * (x 0).val) = _
  omega

/-- The list's window one gather reads. -/
theorem list_at {a : ℕ} {off : Fin 1 → ℕ} (h : off = ![a]) (inb : ∀ k, off k + S128.size k ≤ S4096.size k) (x : S128.Idx) :
    (lsV.view.slice (Rect.unit (s := S4096) off S128.size inb)).read (Elt F) (lsC fB L) x = fB (at1 (rb L + a + (x 0).val)) := by
  subst h
  show lsC fB L ((Rect.unit (s := S4096) ![a] S128.size inb).emb x) = _
  unfold lsC
  congr 2
  show rb L + (a + 1 * (x 0).val) = _
  omega

theorem list_lt (hL : Lists fI fB) {i : ℕ} (hi : i < 16) {off : Fin 1 → ℕ} (h : off = ![256 * i]) (inb : ∀ k, off k + S128.size k ≤ S4096.size k)
    (x : S128.Idx) : ((lsV.view.slice (Rect.unit (s := S4096) off S128.size inb)).read (Elt F) (lsC fB L) x).toNat < 131072 := by
  rw [list_at L fB h inb x]
  have hx : (x 0).val < 128 := (x 0).isLt
  have hib := ib_le L
  rw [rb_eq, show 8 * ib L + 256 * i + (x 0).val = 8 * (ib L + 32 * i + (x 0).val / 8) + (x 0).val % 8 by omega,
    hL.expand _ _ (by omega) (Nat.mod_lt _ (by decide))]
  have := hL.lt (at1 (ib L + 32 * i + (x 0).val / 8))
  have := Nat.mod_lt (x 0).val (show 8 > 0 by decide)
  omega

/-- The gather of one chunk's rows. -/
theorem leaves_gather {i : ℕ} (hi : i < 16) {off : Fin 1 → ℕ} (h : off = ![256 * i]) (inb : ∀ k, off k + S128.size k ≤ S4096.size k)
    (inbT : ∀ k, (![0, 0, 0] : Fin 3 → ℕ) k + S131072x2x128.size k ≤ S131072x2x128.size k)
    (hn : S128.numel = S128x2x128.size gathers_S131072x2x128_S128x2x128.axis')
    (hin : ∀ x, ((lsV.view.slice (Rect.unit (s := S4096) off S128.size inb)).read (Elt F) (lsC fB L) x).toNat < S131072x2x128.size gathers_S131072x2x128_S128x2x128.axis) :
    SparseCore.gatherPayload gathers_S131072x2x128_S128x2x128
      ((tabV.view.slice (Rect.unit (s := S131072x2x128) ![0, 0, 0] S131072x2x128.size inbT)).read (Elt F) fT)
      (SparseCore.rows ((lsV.view.slice (Rect.unit (s := S4096) off S128.size inb)).read (Elt F) (lsC fB L)) hn hin) = bufG fT fB L i := by
  funext x
  have hx0 : (x 0).val < 128 := (x 0).isLt
  have hx1 : (x 1).val < 2 := (x 1).isLt
  have hx2 : (x 2).val < 128 := (x 2).isLt
  have hib := ib_le L
  -- the entry of the list that names this row
  have hk : S128.rowMajor.symm (Fin.cast hn.symm (x 0)) = at1 (x 0).val := by
    rw [Equiv.symm_apply_eq]
    refine Fin.ext ?_
    rw [Shape.rowMajor_val_one]
    exact (Nat.mod_eq_of_lt hx0).symm
  have hr : (SparseCore.rows ((lsV.view.slice (Rect.unit (s := S4096) off S128.size inb)).read (Elt F) (lsC fB L)) hn hin (x 0)).val
      = (fB (at1 (rb L + 256 * i + (x 0).val))).toNat := by
    show ((lsV.view.slice (Rect.unit (s := S4096) off S128.size inb)).read (Elt F) (lsC fB L) (S128.rowMajor.symm (Fin.cast hn.symm (x 0)))).toNat = _
    rw [list_at L fB h inb, hk]
    show (fB (at1 (rb L + 256 * i + (x 0).val % 128))).toNat = _
    rw [Nat.mod_eq_of_lt hx0]
  unfold bufG
  rw [G_at fT fB (by rw [rb_eq]; omega) hx1 hx2 rfl, ← hr]
  unfold SparseCore.gatherPayload
  show fT ((Rect.unit (s := S131072x2x128) ![0, 0, 0] S131072x2x128.size inbT).emb
    (Shape.Gathers.idx gathers_S131072x2x128_S128x2x128 _ x)) = _
  rw [emb_rows (n := 131072) (a := 0) rfl inbT, Nat.zero_add]
  refine congrArg fT (at3_eq _ _ _ _ ?_ ?_ ?_)
  · refine (Nat.mod_eq_of_lt (Fin.isLt _)).trans (congrArg Fin.val (Shape.Gathers.idx_axis gathers_S131072x2x128_S128x2x128 _ x))
  · refine (Nat.mod_eq_of_lt (Fin.isLt _)).trans (Shape.Gathers.idx_of_ne gathers_S131072x2x128_S128x2x128 _ x 1 (by decide))
  · refine (Nat.mod_eq_of_lt (Fin.isLt _)).trans (Shape.Gathers.idx_of_ne gathers_S131072x2x128_S128x2x128 _ x 2 (by decide))

/-- The 128 entries of a tile's list one gather reads. -/
def lsWin (a : ℕ) : Finset S4096.Idx := Finset.univ.filter fun x => a ≤ (x 0).val ∧ (x 0).val < a + 128

theorem set_ls {a : ℕ} {off : Fin 1 → ℕ} (h : off = ![a]) (inb : ∀ k, off k + S128.size k ≤ S4096.size k) :
    (lsV.view.slice (Rect.unit (s := S4096) off S128.size inb)).set = lsWin a := by
  refine (View.set_slice_whole cc0_scratch1 (Rect.unit (s := S4096) off S128.size inb)).trans ?_
  subst h
  ext z
  rw [← Rect.map_emb_univ, Finset.mem_map]
  simp only [lsWin, Finset.mem_filter, Finset.mem_univ, true_and]
  constructor
  · rintro ⟨x, rfl⟩
    have hx : (x 0).val < 128 := (x 0).isLt
    show a ≤ a + 1 * (x 0).val ∧ a + 1 * (x 0).val < a + 128
    omega
  · rintro ⟨h1, h2⟩
    refine ⟨fun k => match k with | 0 => ⟨(z 0).val - a, by show (z 0).val - a < 128; omega⟩, ?_⟩
    funext k
    match k with
    | 0 => exact Fin.ext (by show a + 1 * ((z 0).val - a) = _; omega)

theorem rowsFrom_all : rowsFrom 0 131072 = Finset.univ := by
  ext z
  have hz : (z 0).val < 131072 := (z 0).isLt
  simp only [mem_rowsFrom, Finset.mem_univ, iff_true]
  omega

end Leaves

end Cert.Proof.Gather

end
-- ==== Proof.Steps.lean ====
/-
  One tile's copies, step by step. Two channels of indirect gathers (`Idle`, `Flying`), two of eight row copies into
  the shared scratch (`Resting`, `Issued`), and the writes out of what each brought (`Out`): for each, what the tile
  holds before and after the step that issues it and the step that waits for it.
-/
module

public import proofs.«01_k».proof.Proof.Windows

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

theorem bs_mono {ι : Type} [Fintype ι] {Φ Ψ : ι → sProp 𝕄} (h : ∀ i, Φ i ⊢ Ψ i) : bigSep Finset.univ Φ ⊢ bigSep Finset.univ Ψ := bigSep_mono fun i _ => h i

/-- What the tile owes, its waits so far being new ones of its own. -/
def Ow (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

theorem wait_fl {α : Type} {Q : α → sProp 𝕄} {O : CellTallies nD τ sig (HIx 1)} {W : Waits sig (HIx 1)} {sp sp' : Space} {s s' : Shape} {e e' : EltTy}
    {sem : DmaSem sig} {srcw : Memref sig (thr d L).2.kind sp' s' e'} {dstw : Memref sig (thr d L).2.kind sp s e} {hsrc : srcw.view.WordExact} {hdst : dstw.view.WordExact}
    {k : PUnit → Prog (TpuEff nD τ sig (Elt F) Λ₀ (thr d L).2) α} (N : ℕ) (hN : dstw.view.dmaCredit = N) {R : sProp 𝕄} :
    iprop(Transfers.Flight countersEmb (thr d L) (.dma sem) (default : HIx 1) N R ∗ Ow d L O W)
      ⊢ iprop((iprop(R ∗ semVal (thr d L, .dma sem) 0 ∗ Ow d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold Ow
  iintro ⟨HF, #Hmw, %W', %hW', HO⟩ Hk
  iapply (Transfers.wp_waitLocalO countersEmb 𝒱₀ (thr d L) none (default : HIx 1) hN) $$ [HF HO]
  · isplitl [HF]; · iexact HF
    isplitl [HO]; · iexact HO
    iapply (Transfers.MayWaits.elim (SemLoc.dma sem)) $$ Hmw
  iintro ⟨HR, Hv, HO⟩
  iapply Hk
  isplitl [HR]; · iexact HR
  isplitl [Hv]; · iexact Hv
  isplitr; · iexact Hmw
  iexists _; isplitr
  swap; · iexact HO
  ipureintro; intro p hp
  rcases Finset.mem_insert.mp hp with hp | hp
  · exact .inr (hp ▸ rfl)
  · exact hW' p hp

/-! ## The gathers -/

/-- A row buffer holding chunk `i`'s rows, or anything. -/
def bufPts (b : Memref sig Kind.scVector Space.vmem S128x2x128 .f32) (i : ℕ) : sProp 𝕄 :=
  iprop(∃ f : Buf (Elt F) (b.view.loc (thr d L)), ⌜b.view.read (Elt F) f = bufG fT fB L i⌝ ∗ b.view.loc (thr d L) ↦[b.view.set]{fullShare} f)
def bufAny (b : Memref sig Kind.scVector Space.vmem S128x2x128 .f32) : sProp 𝕄 :=
  iprop(∃ f : Buf (Elt F) (b.view.loc (thr d L)), b.view.loc (thr d L) ↦[b.view.set]{fullShare} f)

abbrev tabP (q : PosShare TreeShare) : sProp 𝕄 := tabV.view.loc (thr d L) ↦{q} fT
abbrev lsP (q : PosShare TreeShare) : sProp 𝕄 := lsV.view.loc (thr d L) ↦{q} lsC fB L

/-- A gather's channel at rest: its semaphore at zero, a share of the table and one of the list. -/
def Idle (sem : DmaSem sig) (qT qL : PosShare TreeShare) : sProp 𝕄 :=
  iprop(semVal (thr d L, .dma sem) 0 ∗ tabP d L fT qT ∗ lsP d L fB qL)

/-- The channel with chunk `i`'s gather in flight into buffer `b`. -/
def Flying (sem : DmaSem sig) (qT qL : PosShare TreeShare) (b : Memref sig Kind.scVector Space.vmem S128x2x128 .f32) (i : ℕ) : sProp 𝕄 :=
  iprop(Transfers.Flight countersEmb (thr d L) (.dma sem) (default : HIx 1) b.view.dmaCredit
      iprop(bufPts d L fT fB b i ∗ tabP d L fT qT ∗ (lsV.view.loc (thr d L) ↦[lsWin (256 * i)]{qL} lsC fB L))
    ∗ (lsV.view.loc (thr d L) ↦[Finset.univ \ lsWin (256 * i)]{qL} lsC fB L))

theorem gather_issue {α : Type} {Q : α → sProp 𝕄} (hL : Lists fI fB) {sem : DmaSem sig} {qT qL : PosShare TreeShare}
    {b : Memref sig Kind.scVector Space.vmem S128x2x128 .f32}
    (hN : ∑ j, (b.slice (S128x2x128.rowRect (gathers_S131072x2x128_S128x2x128).axis' j) (S128x2x128.stride_rowRect _ j)).view.dmaCredit = b.view.dmaCredit)
    {i : ℕ} (hi : i < 16) {off : Fin 1 → ℕ} (h : off = ![256 * i]) {inb : ∀ k, off k + S128.size k ≤ S4096.size k}
    {inbT : ∀ k, (![0, 0, 0] : Fin 3 → ℕ) k + S131072x2x128.size k ≤ S131072x2x128.size k} {hr hr'} {hn} {hp} {hsrc} {he} {hsp} {hst}
    {k : PUnit → Prog (TpuEff nD τ sig (Elt F) Λ₀ (thr d L).2) α} :
    iprop(Idle d L fT fB sem qT qL ∗ bufAny d L b)
      ⊢ iprop((Flying d L fT fB sem qT qL b i -∗ wp frame (wpE (defs₀ (F := F)) 𝒱₀ (thr d L) none) Set.univ (k ⟨⟩) Q)
          -∗ wp frame (wpE (defs₀ (F := F)) 𝒱₀ (thr d L) none) Set.univ
            (SparseCore.enqueueIndirectGather hp (tabV.slice (Rect.unit (s := S131072x2x128) ![0, 0, 0] S131072x2x128.size inbT) hr) b
              gathers_S131072x2x128_S128x2x128 (lsV.slice (Rect.unit (s := S4096) off S128.size inb) hr') hn sem hsrc he hsp hst >>= k) Q) := by
  unfold Idle Flying bufAny
  iintro ⟨⟨Hv, HT, HL⟩, %fd, Hb⟩ Hk
  ihave HLs := (pointsTo_split_subset (q := qL) (f := lsC fB L) (S := Finset.univ) (Finset.subset_univ (lsWin (256 * i)))).1 $$ HL
  icases HLs with ⟨HLw, HLr⟩
  have eT : (tabV.view.slice (Rect.unit (s := S131072x2x128) ![0, 0, 0] S131072x2x128.size inbT)).set = Finset.univ :=
    (set_tab (n := 131072) (a := 0) rfl inbT).trans rowsFrom_all
  have eL := set_ls h inb
  iapply (SparseCore.wp_indirectGatherLocal countersEmb 𝒱₀ (thr d L) none (q := qT) (qo := qL) (fs := fT) (fd := fd) (fo := lsC fB L) (default : HIx 1)
      b.view.dmaCredit hN (by decide) (list_lt (F := F) L fI fB hL hi h inb)) $$ [HT Hb HLw Hv]
  · isplitl [HT]
    · iapply (Entails.of_eq (congrArg (fun X => (tabV.view.loc (thr d L) ↦[X]{qT} fT : sProp 𝕄)) eT.symm)) $$ HT
    isplitl [Hb]; · iexact Hb
    isplitl [HLw]
    · iapply (Entails.of_eq (congrArg (fun X => (lsV.view.loc (thr d L) ↦[X]{qL} lsC fB L : sProp 𝕄)) eL.symm)) $$ HLw
    iexact Hv
  iintro HF
  iapply Hk
  isplitl [HF]
  swap; · iexact HLr
  iapply (Transfers.Flight_mono (D := _) countersEmb ?_) $$ HF
  unfold bufPts
  iintro ⟨Hb, HT, HL⟩
  isplitl [Hb]
  · iexists _
    isplitr
    swap; · iexact Hb
    ipureintro
    rw [View.read_write_univ]
    exact leaves_gather L fT fB hi h inb inbT _ _
  isplitl [HT]
  · iapply (Entails.of_eq (congrArg (fun X => (tabV.view.loc (thr d L) ↦[X]{qT} fT : sProp 𝕄)) eT)) $$ HT
  · iapply (Entails.of_eq (congrArg (fun X => (lsV.view.loc (thr d L) ↦[X]{qL} lsC fB L : sProp 𝕄)) eL)) $$ HL

theorem gather_wait {α : Type} {Q : α → sProp 𝕄} {O : CellTallies nD τ sig (HIx 1)} {W : Waits sig (HIx 1)} {sp' : Space} {s' : Shape} {e' : EltTy}
    {sem : DmaSem sig} {qT qL : PosShare TreeShare} {b : Memref sig Kind.scVector Space.vmem S128x2x128 .f32} {i : ℕ}
    {srcw : Memref sig (thr d L).2.kind sp' s' e'} {hsrc : srcw.view.WordExact} {hdst : b.view.WordExact}
    {k : PUnit → Prog (TpuEff nD τ sig (Elt F) Λ₀ (thr d L).2) α} :
    iprop(Flying d L fT fB sem qT qL b i ∗ Ow d L O W)
      ⊢ iprop((iprop(Idle d L fT fB sem qT qL ∗ bufPts d L fT fB b i ∗ Ow d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw b hsrc hdst) k) Q) := by
  unfold Flying Idle
  iintro ⟨⟨HF, HLr⟩, HO⟩ Hk
  iapply (wait_fl d L b.view.dmaCredit rfl) $$ [HF HO]
  · isplitl [HF] <;> iassumption
  iintro ⟨⟨Hb, HT, HLw⟩, Hv, HO⟩
  iapply Hk
  isplitl [HT Hv HLw HLr]
  · isplitl [Hv]; · iexact Hv
    isplitl [HT]; · iexact HT
    iapply (pointsTo_split_subset (q := qL) (f := lsC fB L) (S := Finset.univ) (Finset.subset_univ (lsWin (256 * i)))).2 $$ [HLw HLr]
    isplitl [HLw] <;> iassumption
  isplitl [Hb] <;> iassumption

/-! ## The writes out -/

abbrev outP (S : Finset S131072x2x128.Idx) (f : S131072x2x128.Idx → Elt F .f32) : sProp 𝕄 := outV.view.loc (thr d L) ↦[S]{fullShare} f
/-- Rows `a` to `a + n` of the output, whatever they hold; and written. -/
def outAny (a n : ℕ) : sProp 𝕄 := iprop(∃ f, outP d L (rowsFrom a n) f)
def outG (a n : ℕ) : sProp 𝕄 := outP d L (rowsFrom a n) (G fT fB)

/-- What a copy of 128, of 64 and of eight rows counts on its semaphore. -/
abbrev cr128 : ℕ := (buf0V.view : View sig Kind.scVector _ _ _).dmaCredit
theorem inbO64 : ∀ k, (![0, 0, 0] : Fin 3 → ℕ) k + S64x2x128.size k ≤ S131072x2x128.size k := by decide
abbrev cr64 : ℕ := (outV.view.slice (Rect.unit (s := S131072x2x128) ![0, 0, 0] S64x2x128.size inbO64)).dmaCredit
theorem inbO128 : ∀ k, (![0, 0, 0] : Fin 3 → ℕ) k + S128x2x128.size k ≤ S131072x2x128.size k := by decide
abbrev crO : ℕ := (outV.view.slice (Rect.unit (s := S131072x2x128) ![0, 0, 0] S128x2x128.size inbO128)).dmaCredit

/-- Chunk `i`'s gathered rows on their way out of buffer `b`. -/
def OutA (sem : DmaSem sig) (b : Memref sig Kind.scVector Space.vmem S128x2x128 .f32) (i : ℕ) : sProp 𝕄 :=
  Transfers.Flight countersEmb (thr d L) (.dma sem) (default : HIx 1) crO iprop(outG d L fT fB (rb L + 256 * i) 128 ∗ bufAny d L b)

theorem outA_issue {α : Type} {Q : α → sProp 𝕄} {sem : DmaSem sig} {b : Memref sig Kind.scVector Space.vmem S128x2x128 .f32} {i : ℕ}
    {off : Fin 3 → ℕ} (h : off = ![rb L + 256 * i, 0, 0]) {inb : ∀ k, off k + S128x2x128.size k ≤ S131072x2x128.size k} {hr hsrc hdst hsem}
    {k : PUnit → Prog (TpuEff nD τ sig (Elt F) Λ₀ (thr d L).2) α} :
    iprop(semVal (thr d L, .dma sem) 0 ∗ bufPts d L fT fB b i ∗ outAny (F := F) d L (rb L + 256 * i) 128)
      ⊢ iprop((OutA d L fT fB sem b i -∗ wp frame (wpE (defs₀ (F := F)) 𝒱₀ (thr d L) none) Set.univ (k ⟨⟩) Q)
          -∗ wp frame (wpE (defs₀ (F := F)) 𝒱₀ (thr d L) none) Set.univ
            (.op (.enqueueDma b (.here (outV.slice (Rect.unit (s := S131072x2x128) off S128x2x128.size inb) hr)) (.dma sem) hsrc hdst hsem) k) Q) := by
  unfold bufPts outAny OutA
  iintro ⟨Hv, ⟨%f, %hf, Hb⟩, %fd, Ho⟩ Hk
  have hw : ∀ z ∈ rowsFrom (rb L + 256 * i) 128,
      (outV.view.slice (Rect.unit (s := S131072x2x128) off S128x2x128.size inb)).write (Elt F) fd (b.view.read (Elt F) f) Finset.univ z = G fT fB z := by
    intro z hz
    rw [hf]
    exact leaves_outA L fT fB true i h inb fd z hz
  have hD : iprop(outP d L (rowsFrom (rb L + 256 * i) 128)
        ((outV.view.slice (Rect.unit (s := S131072x2x128) off S128x2x128.size inb)).write (Elt F) fd (b.view.read (Elt F) f) Finset.univ)
      ∗ (b.view.loc (thr d L) ↦[b.view.set]{fullShare} f)) ⊢ (iprop(outG d L fT fB (rb L + 256 * i) 128 ∗ bufAny d L b) : sProp 𝕄) := by
    unfold outG bufAny
    iintro ⟨Ho, Hb⟩
    isplitl [Ho]
    · iapply (Entails.of_eq (pointsTo_congr (ℓ := outV.view.loc (thr d L)) (q := fullShare) hw)) $$ Ho
    iexists f; iexact Hb
  iapply (Transfers.wp_dmaLocal countersEmb 𝒱₀ (thr d L) none (dst := outV.slice (Rect.unit (s := S131072x2x128) off S128x2x128.size inb) hr)
    (q := fullShare) (fs := f) (Sd := rowsFrom (rb L + 256 * i) 128) (fd := fd) (default : HIx 1) crO rfl (View.dmaCredit_pos _ (by decide +kernel)) (set_out h inb).subset) $$ [Hv Hb Ho]
  · isplitl [Hb]; · iexact Hb
    isplitl [Ho]; · iexact Ho
    iexact Hv
  iintro HF
  iapply Hk
  iapply (Transfers.Flight_mono countersEmb (thr d L) hD) $$ HF

theorem outA_wait {α : Type} {Q : α → sProp 𝕄} {O : CellTallies nD τ sig (HIx 1)} {W : Waits sig (HIx 1)} {sp' : Space} {s' : Shape} {e' : EltTy}
    {sem : DmaSem sig} {b : Memref sig Kind.scVector Space.vmem S128x2x128 .f32} {i : ℕ} {off : Fin 3 → ℕ} {inb : ∀ k, off k + S128x2x128.size k ≤ S131072x2x128.size k} {hr}
    {srcw : Memref sig (thr d L).2.kind sp' s' e'} {hsrc : srcw.view.WordExact} {hdst}
    {k : PUnit → Prog (TpuEff nD τ sig (Elt F) Λ₀ (thr d L).2) α} :
    iprop(OutA d L fT fB sem b i ∗ Ow d L O W)
      ⊢ iprop((iprop((outG d L fT fB (rb L + 256 * i) 128 ∗ bufAny d L b) ∗ semVal (thr d L, .dma sem) 0 ∗ Ow d L O W)
            -∗ wp frame (wpE (defs₀ (F := F)) 𝒱₀ (thr d L) none) Set.univ (k ⟨⟩) Q)
          -∗ wp frame (wpE (defs₀ (F := F)) 𝒱₀ (thr d L) none) Set.univ
            (.op (.waitDma2 sem srcw (outV.slice (Rect.unit (s := S131072x2x128) off S128x2x128.size inb) hr) hsrc hdst) k) Q) :=
  wait_fl d L crO rfl

/-! ## The row copies into the shared scratch -/

abbrev shP (S : Finset S16x2x64x2x128.Idx) (f : S16x2x64x2x128.Idx → Elt F .f32) : sProp 𝕄 := shV.view.loc (thr d L) ↦[S]{fullShare} f
/-- Rows `a` to `a + n` of the tile's block `j` of the shared scratch, whatever they hold; and chunk `i`'s. -/
def shAny (j a n : ℕ) : sProp 𝕄 := iprop(∃ f, shP d L (shRows (L 1).val j a n) f)
def shPts (j a n i : ℕ) : sProp 𝕄 := shP d L (shRows (L 1).val j a n) (shG fT fB L i)

instance shPts_storable (j a n i : ℕ) : Storable (upEmb : UEmb _ 𝕄) (shPts d L fT fB j a n i) := by unfold shPts; infer_instance

theorem inbS8 : ∀ k, (![0, 0, 0, 0, 0] : Fin 5 → ℕ) k + S1x1x8x2x128.size k ≤ S16x2x64x2x128.size k := by decide
abbrev cr8 : ℕ := ((shV.view.slice (Rect.unit (s := S16x2x64x2x128) ![0, 0, 0, 0, 0] S1x1x8x2x128.size inbS8)).reshape S8x2x128 (by decide)).dmaCredit

/-- What the `kk`-th of chunk `i`'s eight row copies delivers. -/
abbrev rowD (q : Fin 8 → PosShare TreeShare) (j i : ℕ) (kk : Fin 8) : sProp 𝕄 :=
  iprop(shPts d L fT fB j (8 * kk.val) 8 i ∗ (tabV.view.loc (thr d L) ↦[rowsFrom (8 * (fI (at1 (ib L + 32 * i + 16 + 8 * j + kk.val))).toNat) 8]{q kk} fT))

/-- What the tile keeps of the `kk`-th copy's means: before it is issued, all of them; after, the rest of its share of the table. -/
abbrev rowK (q : Fin 8 → PosShare TreeShare) (j i n : ℕ) (kk : Fin 8) : sProp 𝕄 :=
  if kk.val < n then iprop(tabV.view.loc (thr d L) ↦[Finset.univ \ rowsFrom (8 * (fI (at1 (ib L + 32 * i + 16 + 8 * j + kk.val))).toNat) 8]{q kk} fT)
  else iprop(shAny (F := F) d L j (8 * kk.val) 8 ∗ tabP d L fT (q kk))

/-- The channel at rest; and with the first `n` of chunk `i`'s eight copies issued. -/
def Resting (sem : DmaSem sig) (q : Fin 8 → PosShare TreeShare) : sProp 𝕄 :=
  iprop(semVal (thr d L, .dma sem) 0 ∗ bigSep Finset.univ fun kk : Fin 8 => tabP d L fT (q kk))
def Issued (sem : DmaSem sig) (q : Fin 8 → PosShare TreeShare) (j i n : ℕ) : sProp 𝕄 :=
  iprop(Transfers.Batch countersEmb (thr d L) (.dma sem) (default : HIx 1) cr8 (rowD d L fT fI fB q j i) n 0
    ∗ bigSep Finset.univ (rowK d L fT fI q j i n))

theorem shRows_parts (s j : ℕ) : shRows s j 0 64 = Finset.univ.biUnion fun kk : Fin 8 => shRows s j (8 * kk.val) 8 := by
  ext z
  simp only [Finset.mem_biUnion, Finset.mem_univ, true_and, mem_shRows]
  constructor
  · rintro ⟨h0, h1, -, h3⟩
    exact ⟨⟨(z 2).val / 8, by omega⟩, h0, h1, by show 8 * ((z 2).val / 8) ≤ _; omega, by show _ < 8 * ((z 2).val / 8) + 8; omega⟩
  · rintro ⟨kk, h0, h1, h2, h3⟩
    have := kk.isLt
    exact ⟨h0, h1, by omega, by omega⟩

theorem shRows_disjoint (s j : ℕ) : ∀ a ∈ (Finset.univ : Finset (Fin 8)), ∀ b ∈ (Finset.univ : Finset (Fin 8)), a ≠ b →
    Disjoint (shRows s j (8 * a.val) 8) (shRows s j (8 * b.val) 8) := by
  intro a _ b _ hab
  rw [Finset.disjoint_left]
  intro z ha hb
  rw [mem_shRows] at ha hb
  exact hab (Fin.ext (by omega))

theorem shP_parts (j : ℕ) (f : S16x2x64x2x128.Idx → Elt F .f32) :
    shP d L (shRows (L 1).val j 0 64) f = bigSep Finset.univ fun kk : Fin 8 => shP d L (shRows (L 1).val j (8 * kk.val) 8) f := by
  rw [shRows_parts]
  exact pointsTo_biUnion _ _ (shRows_disjoint _ _)

/-- The channel is opened for chunk `i`. -/
theorem issued_zero (sem : DmaSem sig) (q : Fin 8 → PosShare TreeShare) (j i : ℕ) :
    iprop(Resting d L fT sem q ∗ shAny (F := F) d L j 0 64) ⊢ (|={Set.univ}=> Issued d L fT fI fB sem q j i 0 : sProp 𝕄) := by
  unfold Resting Issued shAny
  iintro ⟨⟨Hv, HT⟩, %f, HS⟩
  imod (Transfers.batch_alloc' countersEmb (default : HIx 1) cr8 (rowD d L fT fI fB q j i) (c := thr d L) (sm := .dma sem)) $$ Hv with HB
  imodintro
  isplitl [HB]; · iexact HB
  ihave HS' := (Entails.of_eq (shP_parts d L j f)) $$ HS
  ihave H := (Entails.of_eq (bigSep_sep' _ _ _).symm) $$ [HS' HT]
  · isplitl [HS'] <;> iassumption
  iapply (bs_mono fun kk => ?_) $$ H
  unfold rowK
  rw [if_neg (Nat.not_lt_zero _)]
  unfold shAny
  iintro ⟨HS, HT⟩
  isplitl [HS]; · iexists f; iexact HS
  iexact HT

end Cert.Proof.Gather

end
-- ==== Proof.Rows.lean ====
/-
  One tile's copies, continued: the eight row copies of a channel one by one and the one wait for them, the writes out
  of the shared scratch, and the fetches of the two lists.
-/
module

public import proofs.«01_k».proof.Proof.Steps

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

/-- One of the eight copies. -/
theorem row_issue {α : Type} {Q : α → sProp 𝕄} (hL : Lists fI fB) {sem : DmaSem sig} {q : Fin 8 → PosShare TreeShare} {j i n : ℕ} (hj : j < 2) (hi : i < 16) (hn : n < 8)
    {v : BitVec 32} (hv : v = fI (at1 (ib L + 32 * i + 16 + 8 * j + n)))
    {offT : Fin 3 → ℕ} (hT : offT = ![(Scalar.muli v 8#32).toNat, 0, 0]) {inbT : ∀ k, offT k + S8x2x128.size k ≤ S131072x2x128.size k}
    {offS : Fin 5 → ℕ} (hS : offS = ![(L 1).val, j, 8 * n, 0, 0]) {inbS : ∀ k, offS k + S1x1x8x2x128.size k ≤ S16x2x64x2x128.size k} {hr hr' hsq hsrc hdst hsem}
    {k : PUnit → Prog (TpuEff nD τ sig (Elt F) Λ₀ (thr d L).2) α} :
    Issued d L fT fI fB sem q j i n
      ⊢ iprop((Issued d L fT fI fB sem q j i (n + 1) -∗ wp frame (wpE (defs₀ (F := F)) 𝒱₀ (thr d L) none) Set.univ (k ⟨⟩) Q)
          -∗ wp frame (wpE (defs₀ (F := F)) 𝒱₀ (thr d L) none) Set.univ
            (.op (.enqueueDma (tabV.slice (Rect.unit (s := S131072x2x128) offT S8x2x128.size inbT) hr)
              (.here ((shV.slice (Rect.unit (s := S16x2x64x2x128) offS S1x1x8x2x128.size inbS) hr').squeeze S8x2x128 hsq)) (.dma sem) hsrc hdst hsem) k) Q) := by
  have hvt : (Scalar.muli v 8#32).toNat = 8 * v.toNat := by
    have := hL.lt (at1 (ib L + 32 * i + 16 + 8 * j + n))
    rw [← hv] at this
    show (v * 8#32).toNat = _
    rw [BitVec.toNat_mul]
    show v.toNat * 8 % 2 ^ 32 = _
    omega
  rw [hvt] at hT
  have eT := set_tab hT inbT
  have eS := set_sh hS inbS
  unfold Issued
  have hsplit : ∀ m, bigSep Finset.univ (rowK (F := F) d L fT fI q j i m) = iprop(rowK d L fT fI q j i m ⟨n, hn⟩ ∗ bigSep (Finset.univ.erase ⟨n, hn⟩) (rowK d L fT fI q j i m)) :=
    fun m => SparseCore.bigSep_erase' (Finset.mem_univ _)
  have hrest : bigSep (Finset.univ.erase (⟨n, hn⟩ : Fin 8)) (rowK (F := F) d L fT fI q j i n) = bigSep (Finset.univ.erase (⟨n, hn⟩ : Fin 8)) (rowK d L fT fI q j i (n + 1)) := by
    refine bigSep_congr fun kk hkk => ?_
    have hne : kk.val ≠ n := fun e => (Finset.mem_erase.mp hkk).1 (Fin.ext e)
    unfold rowK
    by_cases hlt : kk.val < n
    · rw [if_pos hlt, if_pos (by omega)]
    · rw [if_neg hlt, if_neg (by omega)]
  rw [hsplit n, hsplit (n + 1), hrest]
  have e0 : rowK (F := F) d L fT fI q j i n ⟨n, hn⟩ = iprop(shAny (F := F) d L j (8 * n) 8 ∗ tabP d L fT (q ⟨n, hn⟩)) := if_neg (Nat.lt_irrefl n)
  have e1 : rowK (F := F) d L fT fI q j i (n + 1) ⟨n, hn⟩
      = iprop(tabV.view.loc (thr d L) ↦[Finset.univ \ rowsFrom (8 * v.toNat) 8]{q ⟨n, hn⟩} fT) := by rw [hv]; exact if_pos (Nat.lt_succ_self n)
  rw [e0, e1]
  unfold shAny
  iintro ⟨HB, ⟨⟨%fd, HS⟩, HT⟩, HR⟩ Hk
  ihave HTs := (pointsTo_split_subset (q := q ⟨n, hn⟩) (f := fT) (S := Finset.univ) (Finset.subset_univ (rowsFrom (8 * v.toNat) 8))).1 $$ HT
  icases HTs with ⟨HTw, HTr⟩
  have hw : ∀ z ∈ shRows (L 1).val j (8 * n) 8,
      ((shV.view.slice (Rect.unit (s := S16x2x64x2x128) offS S1x1x8x2x128.size inbS)).reshape S8x2x128 hsq.numel_eq).write (Elt F) fd
        ((tabV.view.slice (Rect.unit (s := S131072x2x128) offT S8x2x128.size inbT)).read (Elt F) fT) Finset.univ z = shG fT fB L i z :=
    leaves_row L fT fI fB hL _ j i n hj hi hn v hv hT inbT hS inbS _ fd
  have hD : iprop(shP d L (shRows (L 1).val j (8 * n) 8)
        (((shV.view.slice (Rect.unit (s := S16x2x64x2x128) offS S1x1x8x2x128.size inbS)).reshape S8x2x128 hsq.numel_eq).write (Elt F) fd
          ((tabV.view.slice (Rect.unit (s := S131072x2x128) offT S8x2x128.size inbT)).read (Elt F) fT) Finset.univ)
      ∗ (tabV.view.loc (thr d L) ↦[(tabV.view.slice (Rect.unit (s := S131072x2x128) offT S8x2x128.size inbT)).set]{q ⟨n, hn⟩} fT))
      ⊢ (rowD d L fT fI fB q j i ⟨n, hn⟩ : sProp 𝕄) := by
    unfold rowD shPts
    rw [← hv]
    iintro ⟨HS, HT⟩
    isplitl [HS]
    · iapply (Entails.of_eq (pointsTo_congr (ℓ := shV.view.loc (thr d L)) (q := fullShare) hw)) $$ HS
    · iapply (Entails.of_eq (congrArg (fun X => (tabV.view.loc (thr d L) ↦[X]{q ⟨n, hn⟩} fT : sProp 𝕄)) eT)) $$ HT
  iapply (Transfers.wp_dmaBatch countersEmb 𝒱₀ (thr d L) none (src := tabV.slice (Rect.unit (s := S131072x2x128) offT S8x2x128.size inbT) hr)
    (dst := (shV.slice (Rect.unit (s := S16x2x64x2x128) offS S1x1x8x2x128.size inbS) hr').squeeze S8x2x128 hsq) (via := .same)
    (Sd := shRows (L 1).val j (8 * n) 8) (fd := fd) (q := q ⟨n, hn⟩) (fs := fT) (default : HIx 1) cr8 rfl (eS _).subset hn (Nat.zero_le _) hD) $$ [HTw HS HB]
  · isplitl [HTw]
    · iapply (Entails.of_eq (congrArg (fun X => (tabV.view.loc (thr d L) ↦[X]{q ⟨n, hn⟩} fT : sProp 𝕄)) eT.symm)) $$ HTw
    isplitl [HS] <;> iassumption
  iintro HB
  iapply Hk
  isplitl [HB]; · iexact HB
  isplitl [HTr] <;> iassumption

theorem rows_back (q : Fin 8 → PosShare TreeShare) (j i : ℕ) :
    (bigSep Finset.univ fun kk : Fin 8 => iprop(rowD d L fT fI fB q j i kk ∗ rowK (F := F) d L fT fI q j i 8 kk) : sProp 𝕄)
      ⊢ bigSep Finset.univ fun kk : Fin 8 => iprop(tabP d L fT (q kk) ∗ shP d L (shRows (L 1).val j (8 * kk.val) 8) (shG fT fB L i)) := by
  refine bs_mono fun kk => ?_
  unfold rowD rowK shPts
  rw [if_pos kk.isLt]
  iintro ⟨⟨HS, HT⟩, HT'⟩
  isplitl [HT HT']
  · iapply (pointsTo_split_subset (q := q kk) (f := fT) (S := Finset.univ) (Finset.subset_univ _)).2 $$ [HT HT']
    isplitl [HT] <;> iassumption
  iexact HS

/-- The wait for all eight. -/
theorem rows_wait {α : Type} {Q : α → sProp 𝕄} {O : CellTallies nD τ sig (HIx 1)} {W : Waits sig (HIx 1)} {sp sp' : Space} {s s' : Shape} {e e' : EltTy}
    {sem : DmaSem sig} {q : Fin 8 → PosShare TreeShare} {j i : ℕ}
    {srcw : Memref sig (thr d L).2.kind sp' s' e'} {dstw : Memref sig (thr d L).2.kind sp s e} {hsrc : srcw.view.WordExact} {hdst : dstw.view.WordExact}
    (hN : dstw.view.dmaCredit = cr8 * 8)
    {k : PUnit → Prog (TpuEff nD τ sig (Elt F) Λ₀ (thr d L).2) α} :
    iprop(Issued d L fT fI fB sem q j i 8 ∗ Ow d L O W)
      ⊢ iprop((iprop(Resting d L fT sem q ∗ shPts d L fT fB j 0 64 i ∗ Ow d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold Ow Issued Resting
  iintro ⟨⟨HB, HK⟩, #Hmw, %W', %hW', HO⟩ Hk
  iapply (Transfers.wp_waitBatchAllO countersEmb 𝒱₀ (thr d L) none (default : HIx 1) hN (View.dmaCredit_pos _ (by decide +kernel)) (Nat.zero_add _)) $$ [HB HO]
  · isplitl [HB]; · iexact HB
    isplitl [HO]; · iexact HO
    iapply (Transfers.MayWaits.elim (SemLoc.dma sem)) $$ Hmw
  iintro ⟨HD, Hv, HO⟩
  iapply Hk
  ihave H := (Entails.of_eq (bigSep_sep' _ _ _).symm) $$ [HD HK]
  · isplitl [HD] <;> iassumption
  ihave H' := (rows_back d L fT fI fB q j i) $$ H
  ihave H'' := (Entails.of_eq (bigSep_sep' _ _ _)) $$ H'
  icases H'' with ⟨HT, HS⟩
  isplitl [Hv HT]
  · isplitl [Hv] <;> iassumption
  isplitl [HS]
  · unfold shPts
    iapply (Entails.of_eq (shP_parts d L j (shG fT fB L i)).symm) $$ HS
  isplitr; · iexact Hmw
  iexists _; isplitr
  swap; · iexact HO
  ipureintro; intro p hp
  rcases Finset.mem_insert.mp hp with hp | hp
  · exact .inr (hp ▸ rfl)
  · exact hW' p hp

/-- Chunk `i`'s block `j` of the shared scratch on its way out. -/
def OutB (sem : DmaSem sig) (j i : ℕ) : sProp 𝕄 :=
  Transfers.Flight countersEmb (thr d L) (.dma sem) (default : HIx 1) cr64 iprop(outG d L fT fB (rb L + 256 * i + 128 + 64 * j) 64 ∗ shAny (F := F) d L j 0 64)

theorem outB_issue {α : Type} {Q : α → sProp 𝕄} {sem : DmaSem sig} {j i : ℕ}
    {off : Fin 3 → ℕ} (h : off = ![rb L + 256 * i + 128 + 64 * j, 0, 0]) {inb : ∀ k, off k + S64x2x128.size k ≤ S131072x2x128.size k}
    {offS : Fin 5 → ℕ} (hS : offS = ![(L 1).val, j, 0, 0, 0]) {inbS : ∀ k, offS k + S1x1x64x2x128.size k ≤ S16x2x64x2x128.size k} {hr hr' hsq hsrc hdst hsem}
    {k : PUnit → Prog (TpuEff nD τ sig (Elt F) Λ₀ (thr d L).2) α} :
    iprop(semVal (thr d L, .dma sem) 0 ∗ shPts d L fT fB j 0 64 i ∗ outAny (F := F) d L (rb L + 256 * i + 128 + 64 * j) 64)
      ⊢ iprop((OutB d L fT fB sem j i -∗ wp frame (wpE (defs₀ (F := F)) 𝒱₀ (thr d L) none) Set.univ (k ⟨⟩) Q)
          -∗ wp frame (wpE (defs₀ (F := F)) 𝒱₀ (thr d L) none) Set.univ
            (.op (.enqueueDma ((shV.slice (Rect.unit (s := S16x2x64x2x128) offS S1x1x64x2x128.size inbS) hr').squeeze S64x2x128 hsq)
              (.here (outV.slice (Rect.unit (s := S131072x2x128) off S64x2x128.size inb) hr)) (.dma sem) hsrc hdst hsem) k) Q) := by
  have eS := set_sh hS inbS
  unfold shPts outAny OutB
  iintro ⟨Hv, Hb, %fd, Ho⟩ Hk
  have hw : ∀ z ∈ rowsFrom (rb L + 256 * i + 128 + 64 * j) 64,
      (outV.view.slice (Rect.unit (s := S131072x2x128) off S64x2x128.size inb)).write (Elt F) fd
        (((shV.view.slice (Rect.unit (s := S16x2x64x2x128) offS S1x1x64x2x128.size inbS)).reshape S64x2x128 hsq.numel_eq).read (Elt F) (shG fT fB L i)) Finset.univ z
        = G fT fB z := leaves_outB L fT fB _ j i h inb hS inbS _ fd
  have hD : iprop(outP d L (rowsFrom (rb L + 256 * i + 128 + 64 * j) 64)
        ((outV.view.slice (Rect.unit (s := S131072x2x128) off S64x2x128.size inb)).write (Elt F) fd
          (((shV.view.slice (Rect.unit (s := S16x2x64x2x128) offS S1x1x64x2x128.size inbS)).reshape S64x2x128 hsq.numel_eq).read (Elt F) (shG fT fB L i)) Finset.univ)
      ∗ shP d L ((shV.view.slice (Rect.unit (s := S16x2x64x2x128) offS S1x1x64x2x128.size inbS)).reshape S64x2x128 hsq.numel_eq).set (shG fT fB L i))
      ⊢ (iprop(outG d L fT fB (rb L + 256 * i + 128 + 64 * j) 64 ∗ shAny (F := F) d L j 0 64) : sProp 𝕄) := by
    unfold outG shAny
    iintro ⟨Ho, Hb⟩
    isplitl [Ho]
    · iapply (Entails.of_eq (pointsTo_congr (ℓ := outV.view.loc (thr d L)) (q := fullShare) hw)) $$ Ho
    iexists _
    iapply (Entails.of_eq (congrArg (fun X => shP d L X (shG fT fB L i)) (eS hsq.numel_eq))) $$ Hb
  iapply (Transfers.wp_dmaLocal countersEmb 𝒱₀ (thr d L) none
    (src := (shV.slice (Rect.unit (s := S16x2x64x2x128) offS S1x1x64x2x128.size inbS) hr').squeeze S64x2x128 hsq)
    (dst := outV.slice (Rect.unit (s := S131072x2x128) off S64x2x128.size inb) hr)
    (q := fullShare) (fs := shG fT fB L i) (Sd := rowsFrom (rb L + 256 * i + 128 + 64 * j) 64) (fd := fd) (default : HIx 1) cr64 rfl
    (View.dmaCredit_pos _ (by decide +kernel)) (set_out h inb).subset) $$ [Hv Hb Ho]
  · isplitl [Hb]
    · iapply (Entails.of_eq (congrArg (fun X => shP d L X (shG fT fB L i)) (eS hsq.numel_eq).symm)) $$ Hb
    isplitl [Ho]; · iexact Ho
    iexact Hv
  iintro HF
  iapply Hk
  iapply (Transfers.Flight_mono countersEmb (thr d L) hD) $$ HF

theorem outB_wait {α : Type} {Q : α → sProp 𝕄} {O : CellTallies nD τ sig (HIx 1)} {W : Waits sig (HIx 1)} {sp' : Space} {s' : Shape} {e' : EltTy}
    {sem : DmaSem sig} {j i : ℕ} {off : Fin 3 → ℕ} {inb : ∀ k, off k + S64x2x128.size k ≤ S131072x2x128.size k} {hr}
    {srcw : Memref sig (thr d L).2.kind sp' s' e'} {hsrc : srcw.view.WordExact} {hdst}
    {k : PUnit → Prog (TpuEff nD τ sig (Elt F) Λ₀ (thr d L).2) α} :
    iprop(OutB d L fT fB sem j i ∗ Ow d L O W)
      ⊢ iprop((iprop((outG d L fT fB (rb L + 256 * i + 128 + 64 * j) 64 ∗ shAny (F := F) d L j 0 64) ∗ semVal (thr d L, .dma sem) 0 ∗ Ow d L O W)
            -∗ wp frame (wpE (defs₀ (F := F)) 𝒱₀ (thr d L) none) Set.univ (k ⟨⟩) Q)
          -∗ wp frame (wpE (defs₀ (F := F)) 𝒱₀ (thr d L) none) Set.univ
            (.op (.waitDma2 sem srcw (outV.slice (Rect.unit (s := S131072x2x128) off S64x2x128.size inb) hr) hsrc hdst) k) Q) :=
  wait_fl d L cr64 rfl

/-! ## The lists fetched -/

abbrev ixP (f : S512.Idx → BitVec 32) : sProp 𝕄 := ixV.view.loc (thr d L) ↦{fullShare} (f : Buf (Elt F) (ixV.view.loc (thr d L)))
abbrev idxP (q : PosShare TreeShare) : sProp 𝕄 := idxV.view.loc (thr d L) ↦{q} (fI : Buf (Elt F) (idxV.view.loc (thr d L)))
abbrev ibP (q : PosShare TreeShare) : sProp 𝕄 := ibV.view.loc (thr d L) ↦{q} (fB : Buf (Elt F) (ibV.view.loc (thr d L)))

theorem ix_fetch {α : Type} {Q : α → sProp 𝕄} {O : CellTallies nD τ sig (HIx 1)} {W : Waits sig (HIx 1)} {sem : DmaSem sig} {q : PosShare TreeShare}
    {off : Fin 1 → ℕ} (h : off = ![ib L]) {inb : ∀ k, off k + S512.size k ≤ S16384.size k} {hr hsrc hdst hsem hr' hsrc' hdst'}
    {k : PUnit → Prog (TpuEff nD τ sig (Elt F) Λ₀ (thr d L).2) α} {f : S512.Idx → BitVec 32} :
    iprop(semVal (thr d L, .dma sem) 0 ∗ idxP (F := F) d L fI q ∗ ixP (F := F) d L f ∗ Ow d L O W)
      ⊢ iprop((iprop(semVal (thr d L, .dma sem) 0 ∗ idxP (F := F) d L fI q ∗ ixP (F := F) d L (ixC fI L) ∗ Ow d L O W)
            -∗ wp frame (wpE (defs₀ (F := F)) 𝒱₀ (thr d L) none) Set.univ (k ⟨⟩) Q)
          -∗ wp frame (wpE (defs₀ (F := F)) 𝒱₀ (thr d L) none) Set.univ
            (.op (.enqueueDma (idxV.slice (Rect.unit (s := S16384) off S512.size inb) hr) (.here ixV) (.dma sem) hsrc hdst hsem) fun _ =>
              .op (.waitDma2 sem (idxV.slice (Rect.unit (s := S16384) off S512.size inb) hr') ixV hsrc' hdst') k) Q) := by
  iintro ⟨Hv, HI, Hx, HO⟩ Hk
  ihave HIs := (pointsTo_split_subset (q := q) (f := (fI : Buf (Elt F) (idxV.view.loc (thr d L)))) (S := Finset.univ)
    (Finset.subset_univ (idxV.view.slice (Rect.unit (s := S16384) off S512.size inb)).set)).1 $$ HI
  icases HIs with ⟨HIw, HIr⟩
  have hD : iprop((ixV.view.loc (thr d L) ↦[Finset.univ]{fullShare} ((ixV.view.write (Elt F) f
        ((idxV.view.slice (Rect.unit (s := S16384) off S512.size inb)).read (Elt F) fI) Finset.univ : S512.Idx → BitVec 32) : Buf (Elt F) (ixV.view.loc (thr d L))))
      ∗ (idxV.view.loc (thr d L) ↦[(idxV.view.slice (Rect.unit (s := S16384) off S512.size inb)).set]{q} (fI : Buf (Elt F) (idxV.view.loc (thr d L)))))
      ⊢ (iprop(ixP (F := F) d L (ixC fI L)
        ∗ (idxV.view.loc (thr d L) ↦[(idxV.view.slice (Rect.unit (s := S16384) off S512.size inb)).set]{q} (fI : Buf (Elt F) (idxV.view.loc (thr d L))))) : sProp 𝕄) := by
    rw [leaves_ix (F := F) L fI h inb f]
  iapply (Transfers.wp_dmaLocal countersEmb 𝒱₀ (thr d L) none (src := idxV.slice (Rect.unit (s := S16384) off S512.size inb) hr) (dst := ixV)
    (q := q) (fs := fI) (Sd := Finset.univ) (fd := f) (default : HIx 1) ixV.view.dmaCredit rfl
    (View.dmaCredit_pos _ (by decide +kernel)) (Finset.subset_univ _)) $$ [HIw Hx Hv]
  · isplitl [HIw]; · iexact HIw
    isplitl [Hx]; · iexact Hx
    iexact Hv
  iintro HF
  iapply (wait_fl d L ixV.view.dmaCredit rfl) $$ [HF HO]
  · isplitl [HF]
    · iapply (Transfers.Flight_mono countersEmb (thr d L) hD) $$ HF
    iexact HO
  iintro ⟨⟨Hx, HIw⟩, Hv, HO⟩
  iapply Hk
  isplitl [Hv]; · iexact Hv
  isplitl [HIw HIr]
  · iapply (pointsTo_split_subset (q := q) (f := (fI : Buf (Elt F) (idxV.view.loc (thr d L)))) (S := Finset.univ)
      (Finset.subset_univ (idxV.view.slice (Rect.unit (s := S16384) off S512.size inb)).set)).2 $$ [HIw HIr]
    isplitl [HIw] <;> iassumption
  isplitl [Hx] <;> iassumption

theorem ls_fetch {α : Type} {Q : α → sProp 𝕄} {O : CellTallies nD τ sig (HIx 1)} {W : Waits sig (HIx 1)} {sem : DmaSem sig} {q : PosShare TreeShare}
    {off : Fin 1 → ℕ} (h : off = ![rb L]) {inb : ∀ k, off k + S4096.size k ≤ S131072.size k} {hr hsrc hdst hsem hr' hsrc' hdst'}
    {k : PUnit → Prog (TpuEff nD τ sig (Elt F) Λ₀ (thr d L).2) α} {f : S4096.Idx → BitVec 32} :
    iprop(semVal (thr d L, .dma sem) 0 ∗ ibP (F := F) d L fB q ∗ (lsV.view.loc (thr d L) ↦{fullShare} (f : Buf (Elt F) (lsV.view.loc (thr d L)))) ∗ Ow d L O W)
      ⊢ iprop((iprop(semVal (thr d L, .dma sem) 0 ∗ ibP (F := F) d L fB q ∗ lsP d L fB fullShare ∗ Ow d L O W)
            -∗ wp frame (wpE (defs₀ (F := F)) 𝒱₀ (thr d L) none) Set.univ (k ⟨⟩) Q)
          -∗ wp frame (wpE (defs₀ (F := F)) 𝒱₀ (thr d L) none) Set.univ
            (.op (.enqueueDma (ibV.slice (Rect.unit (s := S131072) off S4096.size inb) hr) (.here lsV) (.dma sem) hsrc hdst hsem) fun _ =>
              .op (.waitDma2 sem (ibV.slice (Rect.unit (s := S131072) off S4096.size inb) hr') lsV hsrc' hdst') k) Q) := by
  iintro ⟨Hv, HI, Hx, HO⟩ Hk
  ihave HIs := (pointsTo_split_subset (q := q) (f := (fB : Buf (Elt F) (ibV.view.loc (thr d L)))) (S := Finset.univ)
    (Finset.subset_univ (ibV.view.slice (Rect.unit (s := S131072) off S4096.size inb)).set)).1 $$ HI
  icases HIs with ⟨HIw, HIr⟩
  have hD : iprop((lsV.view.loc (thr d L) ↦[Finset.univ]{fullShare} ((lsV.view.write (Elt F) f
        ((ibV.view.slice (Rect.unit (s := S131072) off S4096.size inb)).read (Elt F) fB) Finset.univ : S4096.Idx → BitVec 32) : Buf (Elt F) (lsV.view.loc (thr d L))))
      ∗ (ibV.view.loc (thr d L) ↦[(ibV.view.slice (Rect.unit (s := S131072) off S4096.size inb)).set]{q} (fB : Buf (Elt F) (ibV.view.loc (thr d L)))))
      ⊢ (iprop(lsP d L fB fullShare
        ∗ (ibV.view.loc (thr d L) ↦[(ibV.view.slice (Rect.unit (s := S131072) off S4096.size inb)).set]{q} (fB : Buf (Elt F) (ibV.view.loc (thr d L))))) : sProp 𝕄) := by
    rw [leaves_ls (F := F) L fB h inb f]
  iapply (Transfers.wp_dmaLocal countersEmb 𝒱₀ (thr d L) none (src := ibV.slice (Rect.unit (s := S131072) off S4096.size inb) hr) (dst := lsV)
    (q := q) (fs := fB) (Sd := Finset.univ) (fd := f) (default : HIx 1) lsV.view.dmaCredit rfl
    (View.dmaCredit_pos _ (by decide +kernel)) (Finset.subset_univ _)) $$ [HIw Hx Hv]
  · isplitl [HIw]; · iexact HIw
    isplitl [Hx]; · iexact Hx
    iexact Hv
  iintro HF
  iapply (wait_fl d L lsV.view.dmaCredit rfl) $$ [HF HO]
  · isplitl [HF]
    · iapply (Transfers.Flight_mono countersEmb (thr d L) hD) $$ HF
    iexact HO
  iintro ⟨⟨Hx, HIw⟩, Hv, HO⟩
  iapply Hk
  isplitl [Hv]; · iexact Hv
  isplitl [HIw HIr]
  · iapply (pointsTo_split_subset (q := q) (f := (fB : Buf (Elt F) (ibV.view.loc (thr d L)))) (S := Finset.univ)
      (Finset.subset_univ (ibV.view.slice (Rect.unit (s := S131072) off S4096.size inb)).set)).2 $$ [HIw HIr]
    isplitl [HIw] <;> iassumption
  isplitl [Hx] <;> iassumption

end Cert.Proof.Gather

end
-- ==== Proof.Lanes.lean ====
/-
  The row numbers as the tile reads them: sixteen at a time out of its list, one lane for each copy. What a lane holds,
  and that the copy it names lies in the table.
-/
module

public import proofs.«01_k».proof.Proof.Rows

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

/-- The tile's semaphores: of the two gathers, their two writes out, the two channels of row copies, their two writes out. -/
abbrev ga0 : DmaSem sig := cc0_scratch5.sem
abbrev ga1 : DmaSem sig := cc0_scratch6.sem
abbrev wa0 : DmaSem sig := cc0_scratch7.sem
abbrev wa1 : DmaSem sig := cc0_scratch8.sem
abbrev gb0 : DmaSem sig := cc0_scratch9.sem
abbrev gb1 : DmaSem sig := cc0_scratch10.sem
abbrev wb0 : DmaSem sig := cc0_scratch11.sem
abbrev wb1 : DmaSem sig := cc0_scratch12.sem

/-- The sixteen row numbers of chunk `i` that go by copies of their own. -/
def Lanes (v : S16.Idx → BitVec 32) (i : ℕ) : Prop := ∀ x, v x = fI (at1 (ib L + 32 * i + 16 + (x 0).val))
/-- The row number of chunk `i`'s copy `n` into block `j`. -/
abbrev rowNo (i j n : ℕ) : BitVec 32 := fI (at1 (ib L + 32 * i + 16 + 8 * j + n))

theorem lane {v : S16.Idx → BitVec 32} {i : ℕ} (h : Lanes L fI v i) {w : BitVec 32} {x : S16.Idx} (hw : w = v x) {j n : ℕ} (hx : (x 0).val = 8 * j + n) :
    w = rowNo L fI i j n := by
  rw [hw, h x, hx, ← Nat.add_assoc]

theorem lanes_cast {v : S16.Idx → BitVec 32} {i : ℕ} (h : Lanes L fI v i) (hc : S16.ShapeCasts S16) : Lanes L fI (shapeCast S16 v hc) i := fun x => by
  have e : shapeCast S16 v hc x = v x := congrArg v (Shape.reshapeEquiv_self _ x)
  rw [e]; exact h x

theorem in_table (hL : Lists fI fB) {v : BitVec 32} {k : S16384.Idx} (hv : v = fI k) :
    ∀ a : Fin 3, (![(Scalar.muli v 8#32).toNat, 0, 0] : Fin 3 → ℕ) a + S8x2x128.size a ≤ S131072x2x128.size a := by
  have hlt := hL.lt k
  rw [← hv] at hlt
  have hvt : (Scalar.muli v 8#32).toNat = 8 * v.toNat := by
    show (v * 8#32).toNat = _
    rw [BitVec.toNat_mul]
    show v.toNat * 8 % 2 ^ 32 = _
    omega
  intro a
  match a with
  | 0 => show (Scalar.muli v 8#32).toNat + 8 ≤ 131072; omega
  | 1 => exact Nat.le_refl _
  | 2 => exact Nat.le_refl _

/-- The load of chunk `i`'s sixteen. -/
theorem load_lanes {α : Type} {Q : α → sProp 𝕄} {i : ℕ} {off : Fin 1 → ℕ} (h : off = ![32 * i + 16]) {inb : ∀ k, off k + S16.size k ≤ S512.size k} {hl}
    {k : (S16.Idx → BitVec 32) → Prog (TpuEff nD τ sig (Elt F) Λ₀ (thr d L).2) α} :
    ixP (F := F) d L (ixC fI L)
      ⊢ iprop((∀ v, ⌜Lanes L fI v i⌝ -∗ ixP (F := F) d L (ixC fI L) -∗ wp frame (wpE (defs₀ (F := F)) 𝒱₀ (thr d L) none) Set.univ (k v) Q)
        -∗ wp frame (wpE (defs₀ (F := F)) 𝒱₀ (thr d L) none) Set.univ (.op (.load ixV (Rect.unit (s := S512) off S16.size inb).toLoadRect hl) k) Q) := by
  iintro Hx Hk
  iapply (wp_load 𝒱₀ (thr d L) none (m := ixV) (S := Finset.univ) (q := fullShare) (f := ixC fI L) Set.univ (Finset.subset_univ _)) $$ Hx
  iintro Hx
  iapply Hk $$ %_ %(fun x => (loaded (F := F) L fI h inb x).trans ?_) Hx
  show fI _ = fI _
  congr 2

theorem vec1 {a b : ℕ} (h : a = b) : (![a] : Fin 1 → ℕ) = ![b] := by rw [h]
theorem vec3 {a b : ℕ} (h : a = b) : (![a, 0, 0] : Fin 3 → ℕ) = ![b, 0, 0] := by rw [h]
theorem trips_lt (t : Fin k0_t1_loop.trips) : t.val < 8 := Nat.lt_of_lt_of_le t.isLt k0_t1_abs.2.1

/-- A checked step of the program, at a proof of what it checks. -/
theorem checked {P : Prop} {dP : Decidable P} {α : Type} {Q : α → sProp 𝕄} {k : PLift P → Prog (TpuEff nD τ sig (Elt F) Λ₀ (thr d L).2) α} (h : P) :
    wp frame (wpE (defs₀ (F := F)) 𝒱₀ (thr d L) none) Set.univ (k ⟨h⟩) Q
      ⊢ wp frame (wpE (defs₀ (F := F)) 𝒱₀ (thr d L) none) Set.univ (.op (.assume P dP) k) Q := by
  rw [wp_assume_of 𝒱₀ (thr d L) none Set.univ h]

end Cert.Proof.Gather

end
-- ==== Proof.Credits.lean ====
/-
  What the waits count: 128 rows of a gather together count what their buffer does, and eight copies of eight rows what
  their block does.
-/
module

public import proofs.«01_k».proof.Proof.Lanes

@[expose] public section

noncomputable section

namespace Cert.Proof.Gather

open Cert.KernelIdeal Cert.KernelIdeal.Gen
open Idealize.ShloMosaic

theorem gather_credit0 : ∑ j, (buf0V.slice (S128x2x128.rowRect (gathers_S131072x2x128_S128x2x128).axis' j) (S128x2x128.stride_rowRect _ j)).view.dmaCredit = buf0V.view.dmaCredit := by
  decide +kernel
theorem gather_credit1 : ∑ j, (buf1V.slice (S128x2x128.rowRect (gathers_S131072x2x128_S128x2x128).axis' j) (S128x2x128.stride_rowRect _ j)).view.dmaCredit = buf1V.view.dmaCredit := by
  decide +kernel

theorem rows_credit (off : Fin 5 → ℕ) (inb : ∀ k, off k + S1x1x64x2x128.size k ≤ S16x2x64x2x128.size k) (hsq) :
    ((shV.slice (Rect.unit (s := S16x2x64x2x128) off S1x1x64x2x128.size inb) (fun _ => rfl)).squeeze S64x2x128 hsq).view.dmaCredit = cr8 * 8 := rfl

end Cert.Proof.Gather

end
-- ==== Proof.Open.lean ====
/-
  The start of a tile's task: its lists fetched, the first chunk's gather and row copies issued.
-/
module

public import proofs.«01_k».proof.Proof.Credits

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

variable {q0 q1 : Fin 8 → PosShare TreeShare} {qA0 qA1 qL0 qL1 : PosShare TreeShare} {O : CellTallies nD τ sig (HIx 1)} {W : Waits sig (HIx 1)}

/-- The two lists fetched, the first gather and the first row copy issued. -/
theorem part14_ok (hL : Lists fI fB)  {qI qE : PosShare TreeShare} {fx : S512.Idx → BitVec 32} {fl : S4096.Idx → BitVec 32} (hq : (lsP d L fB fullShare : sProp 𝕄) ⊢ iprop(lsP d L fB qL0 ∗ lsP d L fB qL1))
    {Q : (Σ' (v2 : BitVec 32) (v7 : IVec S16 32) (v15 : BitVec 32), k0_chk2 v15) → sProp 𝕄} :
    iprop(semVal (thr d L, .dma cc0_scoped0.sem) 0 ∗ semVal (thr d L, .dma cc0_scoped1.sem) 0 ∗ idxP (F := F) d L fI qI ∗ ixP (F := F) d L fx ∗ ibP (F := F) d L fB qE ∗ (lsV.view.loc (thr d L) ↦{fullShare} (fl : Buf (Elt F) (lsV.view.loc (thr d L)))) ∗ semVal (thr d L, .dma ga0) 0 ∗ tabP d L fT qA0 ∗ bufAny d L buf0V ∗ Resting d L fT gb0 q0 ∗ shAny (F := F) d L 0 0 64 ∗ Ow d L O W)
      ⊢ iprop((∀ r, ⌜Lanes L fI r.2.1 0 ∧ r.2.2.1 = rowNo L fI 0 0 1⌝ -∗ semVal (thr d L, .dma cc0_scoped0.sem) 0 -∗ semVal (thr d L, .dma cc0_scoped1.sem) 0 -∗ idxP (F := F) d L fI qI -∗ ixP (F := F) d L (ixC fI L) -∗ ibP (F := F) d L fB qE -∗ lsP d L fB qL1 -∗ Flying d L fT fB ga0 qA0 qL0 buf0V 0 -∗ Issued d L fT fI fB gb0 q0 0 0 1 -∗ Ow d L O W -∗ Q r)
        -∗ wp frame (wpE (defs₀ (F := F)) 𝒱₀ (thr d L) none) Set.univ (k0_part14 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 ) Q) := by
  rw [k0_part14_eq_skeleton]
  unfold k0_part14_skel
  simp only [SparseCore.waitIndirectGather, Prog.lift, Prog.bind_op, Prog.bind_ret]
  iintro ⟨Hsemscoped0, Hsemscoped1, Hidx, Hixf, Hibp, Hlsf, Hsemga0, Htab0, Hbuf0, HrestB0, Hsh0, HOw⟩ Hk
  have hi : 0 < 16 := by decide
  iapply (ix_fetch d L fI ((k0_off1_eq L).trans (vec1 (by unfold ib; omega)))) $$ [Hsemscoped0 Hidx Hixf HOw]
  · isplitl [Hsemscoped0]; · iexact Hsemscoped0
    isplitl [Hidx]; · iexact Hidx
    isplitl [Hixf]; · iexact Hixf
    iexact HOw
  iintro ⟨Hsemscoped0, Hidx, Hix, HOw⟩
  iapply (ls_fetch d L fB ((k0_off2_eq L).trans (vec1 (by unfold rb; omega)))) $$ [Hsemscoped1 Hibp Hlsf HOw]
  · isplitl [Hsemscoped1]; · iexact Hsemscoped1
    isplitl [Hibp]; · iexact Hibp
    isplitl [Hlsf]; · iexact Hlsf
    iexact HOw
  iintro ⟨Hsemscoped1, Hibp, Hls, HOw⟩
  ihave Hl := hq $$ Hls
  icases Hl with ⟨Hls0, Hls1⟩
  iapply (gather_issue d L fT fI fB hL gather_credit0 hi (show (![0] : Fin 1 → ℕ) = ![256 * 0] from rfl)) $$ [Hsemga0 Htab0 Hls0 Hbuf0]
  · isplitr [Hbuf0]
    · unfold Idle; isplitl [Hsemga0]; · iexact Hsemga0
      isplitl [Htab0] <;> iassumption
    iexact Hbuf0
  iintro HflyA00
  iapply (load_lanes d L fI (i := 0) (show (![16] : Fin 1 → ℕ) = ![32 * 0 + 16] from rfl)) $$ Hix
  iintro %v6 %hv6 Hix
  have hv6 := lanes_cast L fI hv6 shapeCasts_S16_S16
  have hv9 : extractAt ![0] (k0_pay38 (F := F) v6) inpos_S1_p0 = rowNo L fI 0 0 0 := lane L fI hv6 rfl rfl
  have c1 : k0_chk1 (extractAt ![0] (k0_pay38 (F := F) v6) inpos_S1_p0) := in_table fI fB hL hv9
  iapply (checked d L c1)
  imod (issued_zero d L fT fI fB gb0 q0 0 0) $$ [HrestB0 Hsh0] with HissB0
  · isplitl [HrestB0] <;> iassumption
  iapply (row_issue d L fT fI fB hL (by decide) hi (by decide) hv9 rfl (k0_off3_eq L)) $$ HissB0
  iintro HissB0
  have hv15 : extractAt ![0] (k0_pay39 (F := F) v6) inpos_S1_p0 = rowNo L fI 0 0 1 := lane L fI hv6 rfl rfl
  have c2 : k0_chk2 (extractAt ![0] (k0_pay39 (F := F) v6) inpos_S1_p0) := in_table fI fB hL hv15
  iapply (checked d L c2)
  rw [wp_pure]; imodintro
  iapply Hk $$ %_ %(⟨hv6, hv15⟩) Hsemscoped0 Hsemscoped1 Hidx Hix Hibp Hls1 HflyA00 HissB0 HOw

theorem part15_ok (hL : Lists fI fB) (v7 : IVec S16 32) (v15 : BitVec 32) (k0_hw2 : k0_chk2 v15) (hi : 0 < 16) (hv7 : Lanes L fI v7 0) (hv15 : v15 = rowNo L fI 0 0 1)
    {Q : (Σ' (v39 : BitVec 32), k0_chk6 v39) → sProp 𝕄} :
    Issued d L fT fI fB gb0 q0 0 0 1
      ⊢ iprop((∀ r, ⌜r.1 = rowNo L fI 0 0 5⌝ -∗ Issued d L fT fI fB gb0 q0 0 0 5 -∗ Q r)
        -∗ wp frame (wpE (defs₀ (F := F)) 𝒱₀ (thr d L) none) Set.univ (k0_part15 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v7 v15 k0_hw2) Q) := by
  rw [k0_part15_eq_skeleton]
  unfold k0_part15_skel
  simp only [SparseCore.waitIndirectGather, Prog.lift, Prog.bind_op, Prog.bind_ret]
  iintro HissB0 Hk
  iapply (row_issue d L fT fI fB hL (by decide) hi (by decide) hv15 rfl (k0_off5_eq L)) $$ HissB0
  iintro HissB0
  have hv21 : extractAt ![0] (k0_pay40 v7) inpos_S1_p0 = rowNo L fI 0 0 2 := lane L fI hv7 rfl rfl
  have c3 : k0_chk3 (extractAt ![0] (k0_pay40 v7) inpos_S1_p0) := in_table fI fB hL hv21
  iapply (checked d L c3)
  iapply (row_issue d L fT fI fB hL (by decide) hi (by decide) hv21 rfl (k0_off7_eq L)) $$ HissB0
  iintro HissB0
  have hv27 : extractAt ![0] (k0_pay41 v7) inpos_S1_p0 = rowNo L fI 0 0 3 := lane L fI hv7 rfl rfl
  have c4 : k0_chk4 (extractAt ![0] (k0_pay41 v7) inpos_S1_p0) := in_table fI fB hL hv27
  iapply (checked d L c4)
  iapply (row_issue d L fT fI fB hL (by decide) hi (by decide) hv27 rfl (k0_off9_eq L)) $$ HissB0
  iintro HissB0
  have hv33 : extractAt ![0] (k0_pay42 v7) inpos_S1_p0 = rowNo L fI 0 0 4 := lane L fI hv7 rfl rfl
  have c5 : k0_chk5 (extractAt ![0] (k0_pay42 v7) inpos_S1_p0) := in_table fI fB hL hv33
  iapply (checked d L c5)
  iapply (row_issue d L fT fI fB hL (by decide) hi (by decide) hv33 rfl (k0_off11_eq L)) $$ HissB0
  iintro HissB0
  have hv39 : extractAt ![0] (k0_pay43 v7) inpos_S1_p0 = rowNo L fI 0 0 5 := lane L fI hv7 rfl rfl
  have c6 : k0_chk6 (extractAt ![0] (k0_pay43 v7) inpos_S1_p0) := in_table fI fB hL hv39
  iapply (checked d L c6)
  rw [wp_pure]; imodintro
  iapply Hk $$ %_ %hv39 HissB0

theorem part16_ok (hL : Lists fI fB) (v7 : IVec S16 32) (v39 : BitVec 32) (k0_hw6 : k0_chk6 v39) (hv7 : Lanes L fI v7 0) (hv39 : v39 = rowNo L fI 0 0 5)
    {Q : (Σ' (v57 : IVec S16 32) (v65 : BitVec 32), k0_chk10 v65) → sProp 𝕄} :
    iprop(Issued d L fT fI fB gb0 q0 0 0 5 ∗ Resting d L fT gb1 q1 ∗ shAny (F := F) d L 1 0 64 ∗ ixP (F := F) d L (ixC fI L))
      ⊢ iprop((∀ r, ⌜Lanes L fI r.1 0 ∧ r.2.1 = rowNo L fI 0 1 1⌝ -∗ Issued d L fT fI fB gb0 q0 0 0 8 -∗ Issued d L fT fI fB gb1 q1 1 0 1 -∗ ixP (F := F) d L (ixC fI L) -∗ Q r)
        -∗ wp frame (wpE (defs₀ (F := F)) 𝒱₀ (thr d L) none) Set.univ (k0_part16 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v7 v39 k0_hw6) Q) := by
  rw [k0_part16_eq_skeleton]
  unfold k0_part16_skel
  simp only [SparseCore.waitIndirectGather, Prog.lift, Prog.bind_op, Prog.bind_ret]
  iintro ⟨HissB0, HrestB1, Hsh1, Hix⟩ Hk
  have hi : 0 < 16 := by decide
  iapply (row_issue d L fT fI fB hL (by decide) hi (by decide) hv39 rfl (k0_off13_eq L)) $$ HissB0
  iintro HissB0
  have hv45 : extractAt ![0] (k0_pay44 v7) inpos_S1_p0 = rowNo L fI 0 0 6 := lane L fI hv7 rfl rfl
  have c7 : k0_chk7 (extractAt ![0] (k0_pay44 v7) inpos_S1_p0) := in_table fI fB hL hv45
  iapply (checked d L c7)
  iapply (row_issue d L fT fI fB hL (by decide) hi (by decide) hv45 rfl (k0_off15_eq L)) $$ HissB0
  iintro HissB0
  have hv51 : extractAt ![0] (k0_pay45 v7) inpos_S1_p0 = rowNo L fI 0 0 7 := lane L fI hv7 rfl rfl
  have c8 : k0_chk8 (extractAt ![0] (k0_pay45 v7) inpos_S1_p0) := in_table fI fB hL hv51
  iapply (checked d L c8)
  iapply (row_issue d L fT fI fB hL (by decide) hi (by decide) hv51 rfl (k0_off17_eq L)) $$ HissB0
  iintro HissB0
  iapply (load_lanes d L fI (i := 0) (show (![16] : Fin 1 → ℕ) = ![32 * 0 + 16] from rfl)) $$ Hix
  iintro %v56 %hv56 Hix
  have hv56 := lanes_cast L fI hv56 shapeCasts_S16_S16
  have hv59 : extractAt ![0] (k0_pay47 (F := F) v56) inpos_S1_p0 = rowNo L fI 0 1 0 := lane L fI hv56 rfl rfl
  have c9 : k0_chk9 (extractAt ![0] (k0_pay47 (F := F) v56) inpos_S1_p0) := in_table fI fB hL hv59
  iapply (checked d L c9)
  imod (issued_zero d L fT fI fB gb1 q1 1 0) $$ [HrestB1 Hsh1] with HissB1
  · isplitl [HrestB1] <;> iassumption
  iapply (row_issue d L fT fI fB hL (by decide) hi (by decide) hv59 rfl (k0_off19_eq L)) $$ HissB1
  iintro HissB1
  have hv65 : extractAt ![0] (k0_pay48 (F := F) v56) inpos_S1_p0 = rowNo L fI 0 1 1 := lane L fI hv56 rfl rfl
  have c10 : k0_chk10 (extractAt ![0] (k0_pay48 (F := F) v56) inpos_S1_p0) := in_table fI fB hL hv65
  iapply (checked d L c10)
  rw [wp_pure]; imodintro
  iapply Hk $$ %_ %(⟨hv56, hv65⟩) HissB0 HissB1 Hix

theorem part17_ok (hL : Lists fI fB) (v57 : IVec S16 32) (v65 : BitVec 32) (k0_hw10 : k0_chk10 v65) (hi : 0 < 16) (hv57 : Lanes L fI v57 0) (hv65 : v65 = rowNo L fI 0 1 1)
    {Q : (Σ' (v89 : BitVec 32), k0_chk14 v89) → sProp 𝕄} :
    Issued d L fT fI fB gb1 q1 1 0 1
      ⊢ iprop((∀ r, ⌜r.1 = rowNo L fI 0 1 5⌝ -∗ Issued d L fT fI fB gb1 q1 1 0 5 -∗ Q r)
        -∗ wp frame (wpE (defs₀ (F := F)) 𝒱₀ (thr d L) none) Set.univ (k0_part17 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v57 v65 k0_hw10) Q) := by
  rw [k0_part17_eq_skeleton]
  unfold k0_part17_skel
  simp only [SparseCore.waitIndirectGather, Prog.lift, Prog.bind_op, Prog.bind_ret]
  iintro HissB1 Hk
  iapply (row_issue d L fT fI fB hL (by decide) hi (by decide) hv65 rfl (k0_off21_eq L)) $$ HissB1
  iintro HissB1
  have hv71 : extractAt ![0] (k0_pay49 v57) inpos_S1_p0 = rowNo L fI 0 1 2 := lane L fI hv57 rfl rfl
  have c11 : k0_chk11 (extractAt ![0] (k0_pay49 v57) inpos_S1_p0) := in_table fI fB hL hv71
  iapply (checked d L c11)
  iapply (row_issue d L fT fI fB hL (by decide) hi (by decide) hv71 rfl (k0_off23_eq L)) $$ HissB1
  iintro HissB1
  have hv77 : extractAt ![0] (k0_pay50 v57) inpos_S1_p0 = rowNo L fI 0 1 3 := lane L fI hv57 rfl rfl
  have c12 : k0_chk12 (extractAt ![0] (k0_pay50 v57) inpos_S1_p0) := in_table fI fB hL hv77
  iapply (checked d L c12)
  iapply (row_issue d L fT fI fB hL (by decide) hi (by decide) hv77 rfl (k0_off25_eq L)) $$ HissB1
  iintro HissB1
  have hv83 : extractAt ![0] (k0_pay51 v57) inpos_S1_p0 = rowNo L fI 0 1 4 := lane L fI hv57 rfl rfl
  have c13 : k0_chk13 (extractAt ![0] (k0_pay51 v57) inpos_S1_p0) := in_table fI fB hL hv83
  iapply (checked d L c13)
  iapply (row_issue d L fT fI fB hL (by decide) hi (by decide) hv83 rfl (k0_off27_eq L)) $$ HissB1
  iintro HissB1
  have hv89 : extractAt ![0] (k0_pay52 v57) inpos_S1_p0 = rowNo L fI 0 1 5 := lane L fI hv57 rfl rfl
  have c14 : k0_chk14 (extractAt ![0] (k0_pay52 v57) inpos_S1_p0) := in_table fI fB hL hv89
  iapply (checked d L c14)
  rw [wp_pure]; imodintro
  iapply Hk $$ %_ %hv89 HissB1

end Cert.Proof.Gather

end
-- ==== Proof.Middle.lean ====
/-
  One trip of the loop, first half and middle: a chunk's parts written out, the next one's row copies issued.
-/
module

public import proofs.«01_k».proof.Proof.Credits

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

variable {q0 q1 : Fin 8 → PosShare TreeShare} {qA0 qA1 qL0 qL1 : PosShare TreeShare} {O : CellTallies nD τ sig (HIx 1)} {W : Waits sig (HIx 1)}

/-- Chunk `i` gathered and its two parts on their way out. -/
theorem part6_ok (hL : Lists fI fB) (v2 : BitVec 32) (c0_i32_113 : BitVec 32) (c1_i32_115 : BitVec 32) (k0_t1 : Fin k0_t1_loop.trips) {i : ℕ} (hi : i < 16) (hit : i = 2 * k0_t1.val)
    {Q : (Σ' (arg19 : BitVec 32) (v132 : BitVec 32), BitVec 32) → sProp 𝕄} :
    iprop(Flying d L fT fB ga0 qA0 qL0 buf0V i ∗ Issued d L fT fI fB gb0 q0 0 i 8 ∗ semVal (thr d L, .dma wa0) 0 ∗ semVal (thr d L, .dma wb0) 0 ∗ outAny (F := F) d L (rb L + 256 * i) 128 ∗ outAny (F := F) d L (rb L + 256 * i + 128 + 64 * 0) 64 ∗ Ow d L O W)
      ⊢ iprop((∀ r, Idle d L fT fB ga0 qA0 qL0 -∗ OutA d L fT fB wa0 buf0V i -∗ Resting d L fT gb0 q0 -∗ OutB d L fT fB wb0 0 i -∗ Ow d L O W -∗ Q r)
        -∗ wp frame (wpE (defs₀ (F := F)) 𝒱₀ (thr d L) none) Set.univ (k0_part6 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 c0_i32_113 c1_i32_115 k0_t1) Q) := by
  rw [k0_part6_eq_skeleton]
  unfold k0_part6_skel
  simp only [SparseCore.waitIndirectGather, Prog.lift, Prog.bind_op, Prog.bind_ret]
  iintro ⟨HflyA0i, HissB0, Hsemwa0, Hsemwb0, HanyAi, HanyBi0, HOw⟩ Hk
  iapply (gather_wait d L fT fB) $$ [HflyA0i HOw]
  · isplitl [HflyA0i]; · iexact HflyA0i
    iexact HOw
  iintro ⟨HidleA0, Hbuf, HOw⟩
  iapply (outA_issue d L fT fB (i := i) ((k0_off36_eq L k0_t1).trans (vec3 (by unfold rb; omega)))) $$ [Hsemwa0 Hbuf HanyAi]
  · isplitl [Hsemwa0]; · iexact Hsemwa0
    isplitl [Hbuf]; · iexact Hbuf
    iexact HanyAi
  iintro HoutA0i
  iapply (rows_wait d L fT fI fB (rows_credit _ _ _)) $$ [HissB0 HOw]
  · isplitl [HissB0]; · iexact HissB0
    iexact HOw
  iintro ⟨HrestB0, HshG, HOw⟩
  iapply (outB_issue d L fT fB (j := 0) (i := i) (show k0_off38 L k0_t1 0#32 = _ from (k0_off38_eq L k0_t1 0).trans (vec3 (by have e : ((0 : Fin 2) : ℕ) = 0 := rfl; unfold rb; omega))) (k0_off37_eq L)) $$ [Hsemwb0 HshG HanyBi0]
  · isplitl [Hsemwb0]; · iexact Hsemwb0
    isplitl [HshG]; · iexact HshG
    iexact HanyBi0
  iintro HoutB0i
  rw [wp_pure]; imodintro
  iapply Hk $$ %_ HidleA0 HoutA0i HrestB0 HoutB0i HOw

theorem part7_ok (hL : Lists fI fB) (v2 : BitVec 32) (k0_t1 : Fin k0_t1_loop.trips) (v132 : BitVec 32) (v133 : BitVec 32) {i : ℕ} (hi : i < 16) (hit : i = 2 * k0_t1.val)
    {Q : (Σ' (v177 : IVec S16 32) (v179 : BitVec 32), k0_chk17 v179) → sProp 𝕄} :
    iprop(Issued d L fT fI fB gb1 q1 1 i 8 ∗ semVal (thr d L, .dma wb1) 0 ∗ outAny (F := F) d L (rb L + 256 * i + 128 + 64 * 1) 64 ∗ OutB d L fT fB wb0 0 i ∗ ixP (F := F) d L (ixC fI L) ∗ Ow d L O W)
      ⊢ iprop((∀ r, ⌜Lanes L fI r.1 (i + 1) ∧ r.2.1 = rowNo L fI (i + 1) 0 0⌝ -∗ Resting d L fT gb1 q1 -∗ OutB d L fT fB wb1 1 i -∗ outG d L fT fB (rb L + 256 * i + 128 + 64 * 0) 64 -∗ shAny (F := F) d L 0 0 64 -∗ semVal (thr d L, .dma wb0) 0 -∗ ixP (F := F) d L (ixC fI L) -∗ Ow d L O W -∗ Q r)
        -∗ wp frame (wpE (defs₀ (F := F)) 𝒱₀ (thr d L) none) Set.univ (k0_part7 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 k0_t1 v132 v133) Q) := by
  rw [k0_part7_eq_skeleton]
  unfold k0_part7_skel
  simp only [SparseCore.waitIndirectGather, Prog.lift, Prog.bind_op, Prog.bind_ret]
  iintro ⟨HissB1, Hsemwb1, HanyBi1, HoutB0i, Hix, HOw⟩ Hk
  iapply (rows_wait d L fT fI fB (rows_credit _ _ _)) $$ [HissB1 HOw]
  · isplitl [HissB1]; · iexact HissB1
    iexact HOw
  iintro ⟨HrestB1, HshG, HOw⟩
  iapply (outB_issue d L fT fB (j := 1) (i := i) (show k0_off38 L k0_t1 8#32 = _ from (k0_off38_eq L k0_t1 1).trans (vec3 (by have e : ((1 : Fin 2) : ℕ) = 1 := rfl; unfold rb; omega))) (k0_off39_eq L)) $$ [Hsemwb1 HshG HanyBi1]
  · isplitl [Hsemwb1]; · iexact Hsemwb1
    isplitl [HshG]; · iexact HshG
    iexact HanyBi1
  iintro HoutB1i
  iapply (outB_wait d L fT fB) $$ [HoutB0i HOw]
  · isplitl [HoutB0i]; · iexact HoutB0i
    iexact HOw
  iintro ⟨⟨HdoneBi0, Hsh0⟩, Hsemwb0, HOw⟩
  iapply (load_lanes d L fI (i := i + 1) ((k0_off40_eq k0_t1).trans (vec1 (by omega)))) $$ Hix
  iintro %v176 %hv176 Hix
  have hv176 := lanes_cast L fI hv176 shapeCasts_S16_S16
  have hv179 : extractAt ![0] (k0_pay20 (F := F) v176) inpos_S1_p0 = rowNo L fI (i + 1) 0 0 := lane L fI hv176 rfl rfl
  have c17 : k0_chk17 (extractAt ![0] (k0_pay20 (F := F) v176) inpos_S1_p0) := in_table fI fB hL hv179
  iapply (checked d L c17)
  rw [wp_pure]; imodintro
  iapply Hk $$ %_ %(⟨hv176, hv179⟩) HrestB1 HoutB1i HdoneBi0 Hsh0 Hsemwb0 Hix HOw

theorem part8_ok (hL : Lists fI fB) (v177 : IVec S16 32) (v179 : BitVec 32) (k0_hw17 : k0_chk17 v179) {i : ℕ} (hi : i < 16) (hv177 : Lanes L fI v177 i) (hv179 : v179 = rowNo L fI i 0 0)
    {Q : (Σ' (v203 : BitVec 32), k0_chk21 v203) → sProp 𝕄} :
    iprop(Resting d L fT gb0 q0 ∗ shAny (F := F) d L 0 0 64)
      ⊢ iprop((∀ r, ⌜r.1 = rowNo L fI i 0 4⌝ -∗ Issued d L fT fI fB gb0 q0 0 i 4 -∗ Q r)
        -∗ wp frame (wpE (defs₀ (F := F)) 𝒱₀ (thr d L) none) Set.univ (k0_part8 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v177 v179 k0_hw17) Q) := by
  rw [k0_part8_eq_skeleton]
  unfold k0_part8_skel
  simp only [SparseCore.waitIndirectGather, Prog.lift, Prog.bind_op, Prog.bind_ret]
  iintro ⟨HrestB0, Hsh0⟩ Hk
  imod (issued_zero d L fT fI fB gb0 q0 0 i) $$ [HrestB0 Hsh0] with HissB0
  · isplitl [HrestB0] <;> iassumption
  iapply (row_issue d L fT fI fB hL (by decide) hi (by decide) hv179 rfl (k0_off41_eq L)) $$ HissB0
  iintro HissB0
  have hv185 : extractAt ![0] (k0_pay21 v177) inpos_S1_p0 = rowNo L fI i 0 1 := lane L fI hv177 rfl rfl
  have c18 : k0_chk18 (extractAt ![0] (k0_pay21 v177) inpos_S1_p0) := in_table fI fB hL hv185
  iapply (checked d L c18)
  iapply (row_issue d L fT fI fB hL (by decide) hi (by decide) hv185 rfl (k0_off43_eq L)) $$ HissB0
  iintro HissB0
  have hv191 : extractAt ![0] (k0_pay22 v177) inpos_S1_p0 = rowNo L fI i 0 2 := lane L fI hv177 rfl rfl
  have c19 : k0_chk19 (extractAt ![0] (k0_pay22 v177) inpos_S1_p0) := in_table fI fB hL hv191
  iapply (checked d L c19)
  iapply (row_issue d L fT fI fB hL (by decide) hi (by decide) hv191 rfl (k0_off45_eq L)) $$ HissB0
  iintro HissB0
  have hv197 : extractAt ![0] (k0_pay23 v177) inpos_S1_p0 = rowNo L fI i 0 3 := lane L fI hv177 rfl rfl
  have c20 : k0_chk20 (extractAt ![0] (k0_pay23 v177) inpos_S1_p0) := in_table fI fB hL hv197
  iapply (checked d L c20)
  iapply (row_issue d L fT fI fB hL (by decide) hi (by decide) hv197 rfl (k0_off47_eq L)) $$ HissB0
  iintro HissB0
  have hv203 : extractAt ![0] (k0_pay24 v177) inpos_S1_p0 = rowNo L fI i 0 4 := lane L fI hv177 rfl rfl
  have c21 : k0_chk21 (extractAt ![0] (k0_pay24 v177) inpos_S1_p0) := in_table fI fB hL hv203
  iapply (checked d L c21)
  rw [wp_pure]; imodintro
  iapply Hk $$ %_ %hv203 HissB0

theorem part9_ok (hL : Lists fI fB) (v2 : BitVec 32) (v132 : BitVec 32) (v177 : IVec S16 32) (v203 : BitVec 32) (k0_hw21 : k0_chk21 v203) {i : ℕ} (hi : i < 16) (hv177 : Lanes L fI v177 i) (hv203 : v203 = rowNo L fI i 0 4)
    {Q : (BitVec 32) → sProp 𝕄} :
    Issued d L fT fI fB gb0 q0 0 i 4
      ⊢ iprop((∀ r, Issued d L fT fI fB gb0 q0 0 i 8 -∗ Q r)
        -∗ wp frame (wpE (defs₀ (F := F)) 𝒱₀ (thr d L) none) Set.univ (k0_part9 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 v132 v177 v203 k0_hw21) Q) := by
  rw [k0_part9_eq_skeleton]
  unfold k0_part9_skel
  simp only [SparseCore.waitIndirectGather, Prog.lift, Prog.bind_op, Prog.bind_ret]
  iintro HissB0 Hk
  iapply (row_issue d L fT fI fB hL (by decide) hi (by decide) hv203 rfl (k0_off49_eq L)) $$ HissB0
  iintro HissB0
  have hv209 : extractAt ![0] (k0_pay25 v177) inpos_S1_p0 = rowNo L fI i 0 5 := lane L fI hv177 rfl rfl
  have c22 : k0_chk22 (extractAt ![0] (k0_pay25 v177) inpos_S1_p0) := in_table fI fB hL hv209
  iapply (checked d L c22)
  iapply (row_issue d L fT fI fB hL (by decide) hi (by decide) hv209 rfl (k0_off51_eq L)) $$ HissB0
  iintro HissB0
  have hv215 : extractAt ![0] (k0_pay26 v177) inpos_S1_p0 = rowNo L fI i 0 6 := lane L fI hv177 rfl rfl
  have c23 : k0_chk23 (extractAt ![0] (k0_pay26 v177) inpos_S1_p0) := in_table fI fB hL hv215
  iapply (checked d L c23)
  iapply (row_issue d L fT fI fB hL (by decide) hi (by decide) hv215 rfl (k0_off53_eq L)) $$ HissB0
  iintro HissB0
  have hv221 : extractAt ![0] (k0_pay27 v177) inpos_S1_p0 = rowNo L fI i 0 7 := lane L fI hv177 rfl rfl
  have c24 : k0_chk24 (extractAt ![0] (k0_pay27 v177) inpos_S1_p0) := in_table fI fB hL hv221
  iapply (checked d L c24)
  iapply (row_issue d L fT fI fB hL (by decide) hi (by decide) hv221 rfl (k0_off55_eq L)) $$ HissB0
  iintro HissB0
  rw [wp_pure]; imodintro
  iapply Hk $$ %_ HissB0

theorem part10_ok (hL : Lists fI fB) (k0_t1 : Fin k0_t1_loop.trips) (v133 : BitVec 32) (v229 : BitVec 32) {i : ℕ} (hi : i + 1 < 16) (hit : i = 2 * k0_t1.val)
    {Q : (Σ' (v238 : IVec S16 32) (v252 : BitVec 32), k0_chk27 v252) → sProp 𝕄} :
    iprop(OutB d L fT fB wb1 1 i ∗ Resting d L fT gb1 q1 ∗ ixP (F := F) d L (ixC fI L) ∗ Ow d L O W)
      ⊢ iprop((∀ r, ⌜Lanes L fI r.1 (i + 1) ∧ r.2.1 = rowNo L fI (i + 1) 1 2⌝ -∗ outG d L fT fB (rb L + 256 * i + 128 + 64 * 1) 64 -∗ semVal (thr d L, .dma wb1) 0 -∗ Issued d L fT fI fB gb1 q1 1 (i + 1) 2 -∗ ixP (F := F) d L (ixC fI L) -∗ Ow d L O W -∗ Q r)
        -∗ wp frame (wpE (defs₀ (F := F)) 𝒱₀ (thr d L) none) Set.univ (k0_part10 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 k0_t1 v133 v229) Q) := by
  rw [k0_part10_eq_skeleton]
  unfold k0_part10_skel
  simp only [SparseCore.waitIndirectGather, Prog.lift, Prog.bind_op, Prog.bind_ret]
  iintro ⟨HoutB1i, HrestB1, Hix, HOw⟩ Hk
  iapply (outB_wait d L fT fB) $$ [HoutB1i HOw]
  · isplitl [HoutB1i]; · iexact HoutB1i
    iexact HOw
  iintro ⟨⟨HdoneBi1, Hsh1⟩, Hsemwb1, HOw⟩
  iapply (load_lanes d L fI (i := i + 1) ((k0_off59_eq k0_t1).trans (vec1 (by omega)))) $$ Hix
  iintro %v237 %hv237 Hix
  have hv237 := lanes_cast L fI hv237 shapeCasts_S16_S16
  have hv240 : extractAt ![0] (k0_pay29 (F := F) v237) inpos_S1_p0 = rowNo L fI (i + 1) 1 0 := lane L fI hv237 rfl rfl
  have c25 : k0_chk25 (extractAt ![0] (k0_pay29 (F := F) v237) inpos_S1_p0) := in_table fI fB hL hv240
  iapply (checked d L c25)
  imod (issued_zero d L fT fI fB gb1 q1 1 (i + 1)) $$ [HrestB1 Hsh1] with HissB1
  · isplitl [HrestB1] <;> iassumption
  iapply (row_issue d L fT fI fB hL (by decide) hi (by decide) hv240 rfl (k0_off60_eq L)) $$ HissB1
  iintro HissB1
  have hv246 : extractAt ![0] (k0_pay30 (F := F) v237) inpos_S1_p0 = rowNo L fI (i + 1) 1 1 := lane L fI hv237 rfl rfl
  have c26 : k0_chk26 (extractAt ![0] (k0_pay30 (F := F) v237) inpos_S1_p0) := in_table fI fB hL hv246
  iapply (checked d L c26)
  iapply (row_issue d L fT fI fB hL (by decide) hi (by decide) hv246 rfl (k0_off62_eq L)) $$ HissB1
  iintro HissB1
  have hv252 : extractAt ![0] (k0_pay31 (F := F) v237) inpos_S1_p0 = rowNo L fI (i + 1) 1 2 := lane L fI hv237 rfl rfl
  have c27 : k0_chk27 (extractAt ![0] (k0_pay31 (F := F) v237) inpos_S1_p0) := in_table fI fB hL hv252
  iapply (checked d L c27)
  rw [wp_pure]; imodintro
  iapply Hk $$ %_ %(⟨hv237, hv252⟩) HdoneBi1 Hsemwb1 HissB1 Hix HOw

theorem part11_ok (hL : Lists fI fB) (v238 : IVec S16 32) (v252 : BitVec 32) (k0_hw27 : k0_chk27 v252) {i : ℕ} (hi : i < 16) (hv238 : Lanes L fI v238 i) (hv252 : v252 = rowNo L fI i 1 2)
    {Q : (Σ' (v276 : BitVec 32), k0_chk31 v276) → sProp 𝕄} :
    Issued d L fT fI fB gb1 q1 1 i 2
      ⊢ iprop((∀ r, ⌜r.1 = rowNo L fI i 1 6⌝ -∗ Issued d L fT fI fB gb1 q1 1 i 6 -∗ Q r)
        -∗ wp frame (wpE (defs₀ (F := F)) 𝒱₀ (thr d L) none) Set.univ (k0_part11 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v238 v252 k0_hw27) Q) := by
  rw [k0_part11_eq_skeleton]
  unfold k0_part11_skel
  simp only [SparseCore.waitIndirectGather, Prog.lift, Prog.bind_op, Prog.bind_ret]
  iintro HissB1 Hk
  iapply (row_issue d L fT fI fB hL (by decide) hi (by decide) hv252 rfl (k0_off64_eq L)) $$ HissB1
  iintro HissB1
  have hv258 : extractAt ![0] (k0_pay32 v238) inpos_S1_p0 = rowNo L fI i 1 3 := lane L fI hv238 rfl rfl
  have c28 : k0_chk28 (extractAt ![0] (k0_pay32 v238) inpos_S1_p0) := in_table fI fB hL hv258
  iapply (checked d L c28)
  iapply (row_issue d L fT fI fB hL (by decide) hi (by decide) hv258 rfl (k0_off66_eq L)) $$ HissB1
  iintro HissB1
  have hv264 : extractAt ![0] (k0_pay33 v238) inpos_S1_p0 = rowNo L fI i 1 4 := lane L fI hv238 rfl rfl
  have c29 : k0_chk29 (extractAt ![0] (k0_pay33 v238) inpos_S1_p0) := in_table fI fB hL hv264
  iapply (checked d L c29)
  iapply (row_issue d L fT fI fB hL (by decide) hi (by decide) hv264 rfl (k0_off68_eq L)) $$ HissB1
  iintro HissB1
  have hv270 : extractAt ![0] (k0_pay34 v238) inpos_S1_p0 = rowNo L fI i 1 5 := lane L fI hv238 rfl rfl
  have c30 : k0_chk30 (extractAt ![0] (k0_pay34 v238) inpos_S1_p0) := in_table fI fB hL hv270
  iapply (checked d L c30)
  iapply (row_issue d L fT fI fB hL (by decide) hi (by decide) hv270 rfl (k0_off70_eq L)) $$ HissB1
  iintro HissB1
  have hv276 : extractAt ![0] (k0_pay35 v238) inpos_S1_p0 = rowNo L fI i 1 6 := lane L fI hv238 rfl rfl
  have c31 : k0_chk31 (extractAt ![0] (k0_pay35 v238) inpos_S1_p0) := in_table fI fB hL hv276
  iapply (checked d L c31)
  rw [wp_pure]; imodintro
  iapply Hk $$ %_ %hv276 HissB1

theorem part12_ok (hL : Lists fI fB) (v2 : BitVec 32) (k0_t1 : Fin k0_t1_loop.trips) (arg19 : BitVec 32) (v132 : BitVec 32) (v133 : BitVec 32) (v238 : IVec S16 32) (v276 : BitVec 32) (k0_hw31 : k0_chk31 v276) {i ip : ℕ} (hi : i < 16) (hit : i = 2 * k0_t1.val + 1) (hc : k0_cond1 k0_t1 = 1#1) (hn : i + 1 < 16) (hv238 : Lanes L fI v238 i) (hv276 : v276 = rowNo L fI i 1 6)
    {Q : (BitVec 32) → sProp 𝕄} :
    iprop(Issued d L fT fI fB gb1 q1 1 i 6 ∗ OutA d L fT fB wa0 buf0V ip ∗ Idle d L fT fB ga0 qA0 qL0 ∗ Flying d L fT fB ga1 qA1 qL1 buf1V i ∗ semVal (thr d L, .dma wa1) 0 ∗ outAny (F := F) d L (rb L + 256 * i) 128 ∗ Issued d L fT fI fB gb0 q0 0 i 8 ∗ Ow d L O W)
      ⊢ iprop((∀ r, Issued d L fT fI fB gb1 q1 1 i 8 -∗ outG d L fT fB (rb L + 256 * ip) 128 -∗ semVal (thr d L, .dma wa0) 0 -∗ Flying d L fT fB ga0 qA0 qL0 buf0V (i + 1) -∗ Idle d L fT fB ga1 qA1 qL1 -∗ OutA d L fT fB wa1 buf1V i -∗ Resting d L fT gb0 q0 -∗ shPts d L fT fB 0 0 64 i -∗ Ow d L O W -∗ Q r)
        -∗ wp frame (wpE (defs₀ (F := F)) 𝒱₀ (thr d L) none) Set.univ (k0_part12 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 k0_t1 arg19 v132 v133 v238 v276 k0_hw31) Q) := by
  rw [k0_part12_eq_skeleton]
  unfold k0_part12_skel
  simp only [SparseCore.waitIndirectGather, Prog.lift, Prog.bind_op, Prog.bind_ret]
  iintro ⟨HissB1, HoutA0ip, HidleA0, HflyA1i, Hsemwa1, HanyAi, HissB0, HOw⟩ Hk
  iapply (row_issue d L fT fI fB hL (by decide) hi (by decide) hv276 rfl (k0_off72_eq L)) $$ HissB1
  iintro HissB1
  have hv282 : extractAt ![0] (k0_pay36 v238) inpos_S1_p0 = rowNo L fI i 1 7 := lane L fI hv238 rfl rfl
  have c32 : k0_chk32 (extractAt ![0] (k0_pay36 v238) inpos_S1_p0) := in_table fI fB hL hv282
  iapply (checked d L c32)
  iapply (row_issue d L fT fI fB hL (by decide) hi (by decide) hv282 rfl (k0_off74_eq L)) $$ HissB1
  iintro HissB1
  rw [dif_pos hc]
  simp only [Prog.lift, Prog.bind_op, Prog.bind_ret, bind_assoc, pure_bind]
  iapply (outA_wait d L fT fB) $$ [HoutA0ip HOw]
  · isplitl [HoutA0ip]; · iexact HoutA0ip
    iexact HOw
  iintro ⟨⟨HdoneAip, Hbuf0⟩, Hsemwa0, HOw⟩
  iapply (gather_issue d L fT fI fB hL gather_credit0 hn ((k0_off77_eq k0_t1).trans (vec1 (by omega)))) $$ [HidleA0 Hbuf0]
  · isplitl [HidleA0]; · iexact HidleA0
    iexact Hbuf0
  iintro HflyA0ip1
  iapply (gather_wait d L fT fB) $$ [HflyA1i HOw]
  · isplitl [HflyA1i]; · iexact HflyA1i
    iexact HOw
  iintro ⟨HidleA1, Hbuf, HOw⟩
  iapply (outA_issue d L fT fB (i := i) ((k0_off79_eq L k0_t1).trans (vec3 (by unfold rb; omega)))) $$ [Hsemwa1 Hbuf HanyAi]
  · isplitl [Hsemwa1]; · iexact Hsemwa1
    isplitl [Hbuf]; · iexact Hbuf
    iexact HanyAi
  iintro HoutA1i
  iapply (rows_wait d L fT fI fB (rows_credit _ _ _)) $$ [HissB0 HOw]
  · isplitl [HissB0]; · iexact HissB0
    iexact HOw
  iintro ⟨HrestB0, HshG0i, HOw⟩
  rw [wp_pure]; imodintro
  iapply Hk $$ %_ HissB1 HdoneAip Hsemwa0 HflyA0ip1 HidleA1 HoutA1i HrestB0 HshG0i HOw

theorem part12_last_ok (hL : Lists fI fB) (v2 : BitVec 32) (k0_t1 : Fin k0_t1_loop.trips) (arg19 : BitVec 32) (v132 : BitVec 32) (v133 : BitVec 32) (v238 : IVec S16 32) (v276 : BitVec 32) (k0_hw31 : k0_chk31 v276) {i : ℕ} (hi : i < 16) (hit : i = 2 * k0_t1.val + 1) (hc : ¬ k0_cond1 k0_t1 = 1#1) (hv238 : Lanes L fI v238 i) (hv276 : v276 = rowNo L fI i 1 6)
    {Q : (BitVec 32) → sProp 𝕄} :
    iprop(Issued d L fT fI fB gb1 q1 1 i 6 ∗ Flying d L fT fB ga1 qA1 qL1 buf1V i ∗ semVal (thr d L, .dma wa1) 0 ∗ outAny (F := F) d L (rb L + 256 * i) 128 ∗ Issued d L fT fI fB gb0 q0 0 i 8 ∗ Ow d L O W)
      ⊢ iprop((∀ r, Issued d L fT fI fB gb1 q1 1 i 8 -∗ Idle d L fT fB ga1 qA1 qL1 -∗ OutA d L fT fB wa1 buf1V i -∗ Resting d L fT gb0 q0 -∗ shPts d L fT fB 0 0 64 i -∗ Ow d L O W -∗ Q r)
        -∗ wp frame (wpE (defs₀ (F := F)) 𝒱₀ (thr d L) none) Set.univ (k0_part12 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 k0_t1 arg19 v132 v133 v238 v276 k0_hw31) Q) := by
  rw [k0_part12_eq_skeleton]
  unfold k0_part12_skel
  simp only [SparseCore.waitIndirectGather, Prog.lift, Prog.bind_op, Prog.bind_ret]
  iintro ⟨HissB1, HflyA1i, Hsemwa1, HanyAi, HissB0, HOw⟩ Hk
  iapply (row_issue d L fT fI fB hL (by decide) hi (by decide) hv276 rfl (k0_off72_eq L)) $$ HissB1
  iintro HissB1
  have hv282 : extractAt ![0] (k0_pay36 v238) inpos_S1_p0 = rowNo L fI i 1 7 := lane L fI hv238 rfl rfl
  have c32 : k0_chk32 (extractAt ![0] (k0_pay36 v238) inpos_S1_p0) := in_table fI fB hL hv282
  iapply (checked d L c32)
  iapply (row_issue d L fT fI fB hL (by decide) hi (by decide) hv282 rfl (k0_off74_eq L)) $$ HissB1
  iintro HissB1
  rw [dif_neg hc]
  simp only [wp_bind, wp_pure, Prog.bind_op, Prog.bind_ret, pure_bind]
  iapply (gather_wait d L fT fB) $$ [HflyA1i HOw]
  · isplitl [HflyA1i]; · iexact HflyA1i
    iexact HOw
  iintro ⟨HidleA1, Hbuf, HOw⟩
  iapply (outA_issue d L fT fB (i := i) ((k0_off79_eq L k0_t1).trans (vec3 (by unfold rb; omega)))) $$ [Hsemwa1 Hbuf HanyAi]
  · isplitl [Hsemwa1]; · iexact Hsemwa1
    isplitl [Hbuf]; · iexact Hbuf
    iexact HanyAi
  iintro HoutA1i
  iapply (rows_wait d L fT fI fB (rows_credit _ _ _)) $$ [HissB0 HOw]
  · isplitl [HissB0]; · iexact HissB0
    iexact HOw
  iintro ⟨HrestB0, HshG0i, HOw⟩
  rw [wp_pure]; imodintro
  iapply Hk $$ %_ HissB1 HidleA1 HoutA1i HrestB0 HshG0i HOw

end Cert.Proof.Gather

end
-- ==== Proof.Next.lean ====
/-
  One trip of the loop, last part: the row copies of the chunk after.
-/
module

public import proofs.«01_k».proof.Proof.Credits

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

variable {q0 q1 : Fin 8 → PosShare TreeShare} {qA0 qA1 qL0 qL1 : PosShare TreeShare} {O : CellTallies nD τ sig (HIx 1)} {W : Waits sig (HIx 1)}

/-- The chunk after: its row copies into block 0 begun, once that block's last write out has landed. -/
theorem part1_ok (hL : Lists fI fB) (v2 : BitVec 32) (k0_t1 : Fin k0_t1_loop.trips) (v133 : BitVec 32) (k0_h2 : k0_cond2 k0_t1 = 1#1) {i ip : ℕ} (hi : i < 16) (hit : i = 2 * k0_t1.val + 2)
    {Q : (Σ' (v337 : IVec S16 32), BitVec 32) → sProp 𝕄} :
    iprop(OutB d L fT fB wb0 0 ip ∗ Resting d L fT gb0 q0 ∗ ixP (F := F) d L (ixC fI L) ∗ Ow d L O W)
      ⊢ iprop((∀ r, ⌜Lanes L fI r.1 i ∧ r.2 = rowNo L fI i 0 2⌝ -∗ outG d L fT fB (rb L + 256 * ip + 128 + 64 * 0) 64 -∗ semVal (thr d L, .dma wb0) 0 -∗ Issued d L fT fI fB gb0 q0 0 i 2 -∗ ixP (F := F) d L (ixC fI L) -∗ Ow d L O W -∗ Q r)
        -∗ wp frame (wpE (defs₀ (F := F)) 𝒱₀ (thr d L) none) Set.univ (k0_part1 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 k0_t1 v133 k0_h2) Q) := by
  rw [k0_part1_eq_skeleton]
  unfold k0_part1_skel
  simp only [SparseCore.waitIndirectGather, Prog.lift, Prog.bind_op, Prog.bind_ret]
  iintro ⟨HoutB0ip, HrestB0, Hix, HOw⟩ Hk
  iapply (outB_wait d L fT fB) $$ [HoutB0ip HOw]
  · isplitl [HoutB0ip]; · iexact HoutB0ip
    iexact HOw
  iintro ⟨⟨HdoneBip0, Hsh0⟩, Hsemwb0, HOw⟩
  iapply (load_lanes d L fI (i := i) ((k0_off85_eq k0_t1).trans (vec1 (by omega)))) $$ Hix
  iintro %v336 %hv336 Hix
  have hv336 := lanes_cast L fI hv336 shapeCasts_S16_S16
  have hv339 : extractAt ![0] (k0_pay2 (F := F) v336) inpos_S1_p0 = rowNo L fI i 0 0 := lane L fI hv336 rfl rfl
  have c33 : k0_chk33 k0_t1 (extractAt ![0] (k0_pay2 (F := F) v336) inpos_S1_p0) := fun _ => in_table fI fB hL hv339
  iapply (checked d L c33)
  imod (issued_zero d L fT fI fB gb0 q0 0 i) $$ [HrestB0 Hsh0] with HissB0
  · isplitl [HrestB0] <;> iassumption
  iapply (row_issue d L fT fI fB hL (by decide) hi (by decide) hv339 rfl (k0_off86_eq L)) $$ HissB0
  iintro HissB0
  have hv345 : extractAt ![0] (k0_pay3 (F := F) v336) inpos_S1_p0 = rowNo L fI i 0 1 := lane L fI hv336 rfl rfl
  have c34 : k0_chk34 k0_t1 (extractAt ![0] (k0_pay3 (F := F) v336) inpos_S1_p0) := fun _ => in_table fI fB hL hv345
  iapply (checked d L c34)
  iapply (row_issue d L fT fI fB hL (by decide) hi (by decide) hv345 rfl (k0_off88_eq L)) $$ HissB0
  iintro HissB0
  have hv351 : extractAt ![0] (k0_pay4 (F := F) v336) inpos_S1_p0 = rowNo L fI i 0 2 := lane L fI hv336 rfl rfl
  rw [wp_pure]; imodintro
  iapply Hk $$ %_ %(⟨hv336, hv351⟩) HdoneBip0 Hsemwb0 HissB0 Hix HOw

theorem part2_ok (hL : Lists fI fB) (k0_t1 : Fin k0_t1_loop.trips) (k0_h2 : k0_cond2 k0_t1 = 1#1) (v337 : IVec S16 32) (v351 : BitVec 32) {i : ℕ} (hi : i < 16) (hv337 : Lanes L fI v337 i) (hv351 : v351 = rowNo L fI i 0 2)
    {Q : (BitVec 32) → sProp 𝕄} :
    Issued d L fT fI fB gb0 q0 0 i 2
      ⊢ iprop((∀ r, ⌜r = rowNo L fI i 0 6⌝ -∗ Issued d L fT fI fB gb0 q0 0 i 6 -∗ Q r)
        -∗ wp frame (wpE (defs₀ (F := F)) 𝒱₀ (thr d L) none) Set.univ (k0_part2 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 k0_t1 k0_h2 v337 v351) Q) := by
  rw [k0_part2_eq_skeleton]
  unfold k0_part2_skel
  simp only [SparseCore.waitIndirectGather, Prog.lift, Prog.bind_op, Prog.bind_ret]
  iintro HissB0 Hk
  have c35 : k0_chk35 k0_t1 (v351) := fun _ => in_table fI fB hL hv351
  iapply (checked d L c35)
  iapply (row_issue d L fT fI fB hL (by decide) hi (by decide) hv351 rfl (k0_off90_eq L)) $$ HissB0
  iintro HissB0
  have hv357 : extractAt ![0] (k0_pay5 v337) inpos_S1_p0 = rowNo L fI i 0 3 := lane L fI hv337 rfl rfl
  have c36 : k0_chk36 k0_t1 (extractAt ![0] (k0_pay5 v337) inpos_S1_p0) := fun _ => in_table fI fB hL hv357
  iapply (checked d L c36)
  iapply (row_issue d L fT fI fB hL (by decide) hi (by decide) hv357 rfl (k0_off92_eq L)) $$ HissB0
  iintro HissB0
  have hv363 : extractAt ![0] (k0_pay6 v337) inpos_S1_p0 = rowNo L fI i 0 4 := lane L fI hv337 rfl rfl
  have c37 : k0_chk37 k0_t1 (extractAt ![0] (k0_pay6 v337) inpos_S1_p0) := fun _ => in_table fI fB hL hv363
  iapply (checked d L c37)
  iapply (row_issue d L fT fI fB hL (by decide) hi (by decide) hv363 rfl (k0_off94_eq L)) $$ HissB0
  iintro HissB0
  have hv369 : extractAt ![0] (k0_pay7 v337) inpos_S1_p0 = rowNo L fI i 0 5 := lane L fI hv337 rfl rfl
  have c38 : k0_chk38 k0_t1 (extractAt ![0] (k0_pay7 v337) inpos_S1_p0) := fun _ => in_table fI fB hL hv369
  iapply (checked d L c38)
  iapply (row_issue d L fT fI fB hL (by decide) hi (by decide) hv369 rfl (k0_off96_eq L)) $$ HissB0
  iintro HissB0
  have hv375 : extractAt ![0] (k0_pay8 v337) inpos_S1_p0 = rowNo L fI i 0 6 := lane L fI hv337 rfl rfl
  rw [wp_pure]; imodintro
  iapply Hk $$ %_ %hv375 HissB0

theorem part3_ok (hL : Lists fI fB) (v2 : BitVec 32) (k0_t1 : Fin k0_t1_loop.trips) (v133 : BitVec 32) (k0_h2 : k0_cond2 k0_t1 = 1#1) (v337 : IVec S16 32) (v375 : BitVec 32) {i ip : ℕ} (hi : i < 16) (hit : i = 2 * k0_t1.val + 2) (hv337 : Lanes L fI v337 i) (hv375 : v375 = rowNo L fI i 0 6)
    {Q : (Σ' (v399 : IVec S16 32) (v401 : BitVec 32) (k0_hw41 : k0_chk41 k0_t1 v401), BitVec 32) → sProp 𝕄} :
    iprop(Issued d L fT fI fB gb0 q0 0 i 6 ∗ OutB d L fT fB wb1 1 ip ∗ ixP (F := F) d L (ixC fI L) ∗ Ow d L O W)
      ⊢ iprop((∀ r, ⌜Lanes L fI r.1 i ∧ r.2.1 = rowNo L fI i 1 0⌝ -∗ Issued d L fT fI fB gb0 q0 0 i 8 -∗ outG d L fT fB (rb L + 256 * ip + 128 + 64 * 1) 64 -∗ shAny (F := F) d L 1 0 64 -∗ semVal (thr d L, .dma wb1) 0 -∗ ixP (F := F) d L (ixC fI L) -∗ Ow d L O W -∗ Q r)
        -∗ wp frame (wpE (defs₀ (F := F)) 𝒱₀ (thr d L) none) Set.univ (k0_part3 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 k0_t1 v133 k0_h2 v337 v375) Q) := by
  rw [k0_part3_eq_skeleton]
  unfold k0_part3_skel
  simp only [SparseCore.waitIndirectGather, Prog.lift, Prog.bind_op, Prog.bind_ret]
  iintro ⟨HissB0, HoutB1ip, Hix, HOw⟩ Hk
  have c39 : k0_chk39 k0_t1 (v375) := fun _ => in_table fI fB hL hv375
  iapply (checked d L c39)
  iapply (row_issue d L fT fI fB hL (by decide) hi (by decide) hv375 rfl (k0_off98_eq L)) $$ HissB0
  iintro HissB0
  have hv381 : extractAt ![0] (k0_pay9 v337) inpos_S1_p0 = rowNo L fI i 0 7 := lane L fI hv337 rfl rfl
  have c40 : k0_chk40 k0_t1 (extractAt ![0] (k0_pay9 v337) inpos_S1_p0) := fun _ => in_table fI fB hL hv381
  iapply (checked d L c40)
  iapply (row_issue d L fT fI fB hL (by decide) hi (by decide) hv381 rfl (k0_off100_eq L)) $$ HissB0
  iintro HissB0
  iapply (outB_wait d L fT fB) $$ [HoutB1ip HOw]
  · isplitl [HoutB1ip]; · iexact HoutB1ip
    iexact HOw
  iintro ⟨⟨HdoneBip1, Hsh1⟩, Hsemwb1, HOw⟩
  iapply (load_lanes d L fI (i := i) ((k0_off104_eq k0_t1).trans (vec1 (by omega)))) $$ Hix
  iintro %v398 %hv398 Hix
  have hv398 := lanes_cast L fI hv398 shapeCasts_S16_S16
  have hv401 : extractAt ![0] (k0_pay11 (F := F) v398) inpos_S1_p0 = rowNo L fI i 1 0 := lane L fI hv398 rfl rfl
  have c41 : k0_chk41 k0_t1 (extractAt ![0] (k0_pay11 (F := F) v398) inpos_S1_p0) := fun _ => in_table fI fB hL hv401
  iapply (checked d L c41)
  rw [wp_pure]; imodintro
  iapply Hk $$ %_ %(⟨hv398, hv401⟩) HissB0 HdoneBip1 Hsh1 Hsemwb1 Hix HOw

theorem part4_ok (hL : Lists fI fB) (k0_t1 : Fin k0_t1_loop.trips) (k0_h2 : k0_cond2 k0_t1 = 1#1) (v399 : IVec S16 32) (v401 : BitVec 32) (k0_hw41 : k0_chk41 k0_t1 v401) (c8_i32_461 : BitVec 32) {i : ℕ} (hi : i < 16) (hv399 : Lanes L fI v399 i) (hv401 : v401 = rowNo L fI i 1 0)
    {Q : (Σ' (v425 : BitVec 32) (k0_hw45 : k0_chk45 k0_t1 v425), BitVec 32) → sProp 𝕄} :
    iprop(Resting d L fT gb1 q1 ∗ shAny (F := F) d L 1 0 64)
      ⊢ iprop((∀ r, ⌜r.1 = rowNo L fI i 1 4⌝ -∗ Issued d L fT fI fB gb1 q1 1 i 4 -∗ Q r)
        -∗ wp frame (wpE (defs₀ (F := F)) 𝒱₀ (thr d L) none) Set.univ (k0_part4 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 k0_t1 k0_h2 v399 v401 k0_hw41 c8_i32_461) Q) := by
  rw [k0_part4_eq_skeleton]
  unfold k0_part4_skel
  simp only [SparseCore.waitIndirectGather, Prog.lift, Prog.bind_op, Prog.bind_ret]
  iintro ⟨HrestB1, Hsh1⟩ Hk
  imod (issued_zero d L fT fI fB gb1 q1 1 i) $$ [HrestB1 Hsh1] with HissB1
  · isplitl [HrestB1] <;> iassumption
  iapply (row_issue d L fT fI fB hL (by decide) hi (by decide) hv401 rfl (k0_off105_eq L)) $$ HissB1
  iintro HissB1
  have hv407 : extractAt ![0] (k0_pay12 v399) inpos_S1_p0 = rowNo L fI i 1 1 := lane L fI hv399 rfl rfl
  have c42 : k0_chk42 k0_t1 (extractAt ![0] (k0_pay12 v399) inpos_S1_p0) := fun _ => in_table fI fB hL hv407
  iapply (checked d L c42)
  iapply (row_issue d L fT fI fB hL (by decide) hi (by decide) hv407 rfl (k0_off107_eq L)) $$ HissB1
  iintro HissB1
  have hv413 : extractAt ![0] (k0_pay13 v399) inpos_S1_p0 = rowNo L fI i 1 2 := lane L fI hv399 rfl rfl
  have c43 : k0_chk43 k0_t1 (extractAt ![0] (k0_pay13 v399) inpos_S1_p0) := fun _ => in_table fI fB hL hv413
  iapply (checked d L c43)
  iapply (row_issue d L fT fI fB hL (by decide) hi (by decide) hv413 rfl (k0_off109_eq L)) $$ HissB1
  iintro HissB1
  have hv419 : extractAt ![0] (k0_pay14 v399) inpos_S1_p0 = rowNo L fI i 1 3 := lane L fI hv399 rfl rfl
  have c44 : k0_chk44 k0_t1 (extractAt ![0] (k0_pay14 v399) inpos_S1_p0) := fun _ => in_table fI fB hL hv419
  iapply (checked d L c44)
  iapply (row_issue d L fT fI fB hL (by decide) hi (by decide) hv419 rfl (k0_off111_eq L)) $$ HissB1
  iintro HissB1
  have hv425 : extractAt ![0] (k0_pay15 v399) inpos_S1_p0 = rowNo L fI i 1 4 := lane L fI hv399 rfl rfl
  have c45 : k0_chk45 k0_t1 (extractAt ![0] (k0_pay15 v399) inpos_S1_p0) := fun _ => in_table fI fB hL hv425
  iapply (checked d L c45)
  rw [wp_pure]; imodintro
  iapply Hk $$ %_ %hv425 HissB1

theorem part5_ok (hL : Lists fI fB) (v2 : BitVec 32) (k0_t1 : Fin k0_t1_loop.trips) (v133 : BitVec 32) (k0_h2 : k0_cond2 k0_t1 = 1#1) (v399 : IVec S16 32) (v425 : BitVec 32) (k0_hw45 : k0_chk45 k0_t1 v425) (c8_i32_489 : BitVec 32) {i : ℕ} (hi : i < 16) (hv399 : Lanes L fI v399 i) (hv425 : v425 = rowNo L fI i 1 4)
    {Q : (Σ' (v449 : BitVec 32), BitVec 32) → sProp 𝕄} :
    Issued d L fT fI fB gb1 q1 1 i 4
      ⊢ iprop((∀ r, Issued d L fT fI fB gb1 q1 1 i 8 -∗ Q r)
        -∗ wp frame (wpE (defs₀ (F := F)) 𝒱₀ (thr d L) none) Set.univ (k0_part5 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 k0_t1 v133 k0_h2 v399 v425 k0_hw45 c8_i32_489) Q) := by
  rw [k0_part5_eq_skeleton]
  unfold k0_part5_skel
  simp only [SparseCore.waitIndirectGather, Prog.lift, Prog.bind_op, Prog.bind_ret]
  iintro HissB1 Hk
  iapply (row_issue d L fT fI fB hL (by decide) hi (by decide) hv425 rfl (k0_off113_eq L)) $$ HissB1
  iintro HissB1
  have hv431 : extractAt ![0] (k0_pay16 v399) inpos_S1_p0 = rowNo L fI i 1 5 := lane L fI hv399 rfl rfl
  have c46 : k0_chk46 k0_t1 (extractAt ![0] (k0_pay16 v399) inpos_S1_p0) := fun _ => in_table fI fB hL hv431
  iapply (checked d L c46)
  iapply (row_issue d L fT fI fB hL (by decide) hi (by decide) hv431 rfl (k0_off115_eq L)) $$ HissB1
  iintro HissB1
  have hv437 : extractAt ![0] (k0_pay17 v399) inpos_S1_p0 = rowNo L fI i 1 6 := lane L fI hv399 rfl rfl
  have c47 : k0_chk47 k0_t1 (extractAt ![0] (k0_pay17 v399) inpos_S1_p0) := fun _ => in_table fI fB hL hv437
  iapply (checked d L c47)
  iapply (row_issue d L fT fI fB hL (by decide) hi (by decide) hv437 rfl (k0_off117_eq L)) $$ HissB1
  iintro HissB1
  have hv443 : extractAt ![0] (k0_pay18 v399) inpos_S1_p0 = rowNo L fI i 1 7 := lane L fI hv399 rfl rfl
  have c48 : k0_chk48 k0_t1 (extractAt ![0] (k0_pay18 v399) inpos_S1_p0) := fun _ => in_table fI fB hL hv443
  iapply (checked d L c48)
  iapply (row_issue d L fT fI fB hL (by decide) hi (by decide) hv443 rfl (k0_off119_eq L)) $$ HissB1
  iintro HissB1
  rw [wp_pure]; imodintro
  iapply Hk $$ %_ HissB1

end Cert.Proof.Gather

end
-- ==== Proof.Trip.lean ====
/-
  A trip of the loop, whole: from one invariant to the next; and the last trip.
-/
module

public import proofs.«01_k».proof.Proof.Open
public import proofs.«01_k».proof.Proof.Middle
public import proofs.«01_k».proof.Proof.Next

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

/-- Chunk `n`'s rows of the output, whatever they hold; and written. -/
def Todo (n : ℕ) : sProp 𝕄 :=
  iprop(outAny (F := F) d L (rb L + 256 * n) 128 ∗ outAny (F := F) d L (rb L + 256 * n + 128 + 64 * 0) 64 ∗ outAny (F := F) d L (rb L + 256 * n + 128 + 64 * 1) 64)
def Done (n : ℕ) : sProp 𝕄 :=
  iprop(outG d L fT fB (rb L + 256 * n) 128 ∗ outG d L fT fB (rb L + 256 * n + 128 + 64 * 0) 64 ∗ outG d L fT fB (rb L + 256 * n + 128 + 64 * 1) 64)

/-- Two chunks are a trip's; those of the first `t` trips are written. -/
def Piece (t : ℕ) (k : Fin 8) : sProp 𝕄 :=
  if k.val < t then iprop(Done d L fT fB (2 * k.val) ∗ Done d L fT fB (2 * k.val + 1)) else iprop(Todo (F := F) d L (2 * k.val) ∗ Todo (F := F) d L (2 * k.val + 1))

theorem piece_rest (t : ℕ) (ht : t < 8) :
    bigSep (Finset.univ.erase (⟨t, ht⟩ : Fin 8)) (Piece d L fT fB t) = bigSep (Finset.univ.erase (⟨t, ht⟩ : Fin 8)) (Piece d L fT fB (t + 1)) := by
  refine bigSep_congr fun k hk => ?_
  have hne : k.val ≠ t := fun e => (Finset.mem_erase.mp hk).1 (Fin.ext e)
  unfold Piece
  by_cases hlt : k.val < t
  · rw [if_pos hlt, if_pos (by omega)]
  · rw [if_neg hlt, if_neg (by omega)]

theorem pieces_take {i t : ℕ} (hit : i = 2 * t) (ht : t < 8) :
    bigSep Finset.univ (Piece d L fT fB t)
      = iprop((Todo (F := F) d L i ∗ Todo (F := F) d L (i + 1)) ∗ bigSep (Finset.univ.erase (⟨t, ht⟩ : Fin 8)) (Piece d L fT fB (t + 1))) := by
  rw [← piece_rest, SparseCore.bigSep_erase' (Finset.mem_univ (⟨t, ht⟩ : Fin 8))]
  have e : Piece d L fT fB t ⟨t, ht⟩ = iprop(Todo (F := F) d L (2 * t) ∗ Todo (F := F) d L (2 * t + 1)) := if_neg (Nat.lt_irrefl t)
  rw [e, hit]

theorem pieces_put {i t : ℕ} (hit : i = 2 * t) (ht : t < 8) :
    bigSep Finset.univ (Piece d L fT fB (t + 1))
      = iprop((Done d L fT fB i ∗ Done d L fT fB (i + 1)) ∗ bigSep (Finset.univ.erase (⟨t, ht⟩ : Fin 8)) (Piece d L fT fB (t + 1))) := by
  rw [SparseCore.bigSep_erase' (Finset.mem_univ (⟨t, ht⟩ : Fin 8))]
  have e : Piece d L fT fB (t + 1) ⟨t, ht⟩ = iprop(Done d L fT fB (2 * t) ∗ Done d L fT fB (2 * t + 1)) := if_pos (Nat.lt_succ_self t)
  rw [e, hit]

theorem conds : ∀ t : Fin k0_t1_loop.trips, (k0_cond1 t = 1#1 ↔ t.val < 7) ∧ (k0_cond2 t = 1#1 ↔ t.val < 7) := by decide +kernel

/-- Before trip `t`, whose first chunk is `i`: both its gathers and all the first one's row copies are in flight. -/
def Mid (q0 q1 : Fin 8 → PosShare TreeShare) (qA0 qA1 qL0 qL1 : PosShare TreeShare) (O : CellTallies nD τ sig (HIx 1)) (W : Waits sig (HIx 1)) (i t : ℕ) : sProp 𝕄 :=
  iprop(Flying d L fT fB ga0 qA0 qL0 buf0V i ∗ Flying d L fT fB ga1 qA1 qL1 buf1V (i + 1) ∗ Issued d L fT fI fB gb0 q0 0 i 8 ∗ Issued d L fT fI fB gb1 q1 1 i 8
    ∗ semVal (thr d L, .dma wa0) 0 ∗ semVal (thr d L, .dma wa1) 0 ∗ semVal (thr d L, .dma wb0) 0 ∗ semVal (thr d L, .dma wb1) 0
    ∗ ixP (F := F) d L (ixC fI L) ∗ Ow d L O W ∗ bigSep Finset.univ (Piece d L fT fB t))

/-- After the last trip: all channels at rest, the last two chunks' writes out in flight. -/
def Last (q0 q1 : Fin 8 → PosShare TreeShare) (qA0 qA1 qL0 qL1 : PosShare TreeShare) (O : CellTallies nD τ sig (HIx 1)) (W : Waits sig (HIx 1)) : sProp 𝕄 :=
  iprop(Idle d L fT fB ga0 qA0 qL0 ∗ Idle d L fT fB ga1 qA1 qL1 ∗ Resting d L fT gb0 q0 ∗ Resting d L fT gb1 q1
    ∗ OutA d L fT fB wa0 buf0V 14 ∗ OutA d L fT fB wa1 buf1V 15 ∗ OutB d L fT fB wb0 0 15 ∗ OutB d L fT fB wb1 1 15
    ∗ ixP (F := F) d L (ixC fI L) ∗ Ow d L O W
    ∗ outG d L fT fB (rb L + 256 * 14 + 128 + 64 * 0) 64 ∗ outG d L fT fB (rb L + 256 * 14 + 128 + 64 * 1) 64
    ∗ bigSep (Finset.univ.erase (7 : Fin 8)) (Piece d L fT fB 8))

variable {q0 q1 : Fin 8 → PosShare TreeShare} {qA0 qA1 qL0 qL1 : PosShare TreeShare} {O : CellTallies nD τ sig (HIx 1)} {W : Waits sig (HIx 1)}

theorem trip_next (hL : Lists fI fB) (k0_t1 : Fin k0_t1_loop.trips) (h : k0_t1.val < 7) {i : ℕ} (hit : i = 2 * k0_t1.val) {v2 : BitVec 32} {Q : PUnit → sProp 𝕄} :
    Mid d L fT fI fB q0 q1 qA0 qA1 qL0 qL1 O W i k0_t1.val
      ⊢ iprop((Mid d L fT fI fB q0 q1 qA0 qA1 qL0 qL1 O W (i + 2) (k0_t1.val + 1) -∗ Q ⟨⟩)
        -∗ wp frame (wpE (defs₀ (F := F)) 𝒱₀ (thr d L) none) Set.univ (k0_part13 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 0#32 1#32 k0_t1) Q) := by
  have ht := trips_lt k0_t1
  have hi : i < 16 := by omega
  have hi1 : i + 1 < 16 := by omega
  rw [k0_part13_eq_skeleton]
  unfold k0_part13_skel Mid
  simp only [Prog.lift, Prog.bind_op, Prog.bind_ret, wp_bind]
  iintro ⟨HA0, HA1, HB0, HB1, Hwa0, Hwa1, Hwb0, Hwb1, Hix, HOw, Hp⟩ Hk
  ihave Hp' := (Entails.of_eq (pieces_take d L fT fB hit ht)) $$ Hp
  unfold Todo
  icases Hp' with ⟨⟨⟨HtA, HtB0, HtB1⟩, HuA, HuB0, HuB1⟩, Hp⟩
  iapply (part6_ok d L fT fI fB hL _ _ _ k0_t1 hi hit) $$ [HA0 HB0 Hwa0 Hwb0 HtA HtB0 HOw]
  · isplitl [HA0]; · iexact HA0
    isplitl [HB0]; · iexact HB0
    isplitl [Hwa0]; · iexact Hwa0
    isplitl [Hwb0]; · iexact Hwb0
    isplitl [HtA]; · iexact HtA
    isplitl [HtB0]; · iexact HtB0
    iexact HOw
  iintro %r HA0 HoA0 HB0 HoB0 HOw
  iapply (part7_ok d L fT fI fB hL _ k0_t1 _ _ hi hit) $$ [HB1 Hwb1 HtB1 HoB0 Hix HOw]
  · isplitl [HB1]; · iexact HB1
    isplitl [Hwb1]; · iexact Hwb1
    isplitl [HtB1]; · iexact HtB1
    isplitl [HoB0]; · iexact HoB0
    isplitl [Hix]; · iexact Hix
    iexact HOw
  iintro %r7 %h7 HB1 HoB1 HdB0 Hsh0 Hwb0 Hix HOw
  iapply (part8_ok d L fT fI fB hL _ _ _ hi1 h7.1 h7.2) $$ [HB0 Hsh0]
  · isplitl [HB0]; · iexact HB0
    iexact Hsh0
  iintro %r8 %h8 HB0
  iapply (part9_ok d L fT fI fB hL _ _ _ _ _ hi1 h7.1 h8) $$ HB0
  iintro %r9 HB0
  iapply (part10_ok d L fT fI fB hL k0_t1 _ _ hi1 hit) $$ [HoB1 HB1 Hix HOw]
  · isplitl [HoB1]; · iexact HoB1
    isplitl [HB1]; · iexact HB1
    isplitl [Hix]; · iexact Hix
    iexact HOw
  iintro %r10 %h10 HdB1 Hwb1 HB1 Hix HOw
  iapply (part11_ok d L fT fI fB hL _ _ _ hi1 h10.1 h10.2) $$ HB1
  iintro %r11 %h11 HB1
  have hi2 : i + 1 + 1 < 16 := by omega
  iapply (part12_ok d L fT fI fB hL _ k0_t1 _ _ _ _ _ _ hi1 (by omega) ((conds k0_t1).1.2 h) hi2 h10.1 h11) $$ [HB1 HoA0 HA0 HA1 Hwa1 HuA HB0 HOw]
  · isplitl [HB1]; · iexact HB1
    isplitl [HoA0]; · iexact HoA0
    isplitl [HA0]; · iexact HA0
    isplitl [HA1]; · iexact HA1
    isplitl [Hwa1]; · iexact Hwa1
    isplitl [HuA]; · iexact HuA
    isplitl [HB0]; · iexact HB0
    iexact HOw
  iintro %r12 HB1 HdA Hwa0 HA0 HA1 HoA1 HB0 HsG0 HOw
  iapply (outB_issue d L fT fB (j := 0) (i := i + 1) (show k0_off81 L k0_t1 0#32 = _ from (k0_off81_eq L k0_t1 0).trans (vec3 (by have e : ((0 : Fin 2) : ℕ) = 0 := rfl; unfold rb; omega))) (k0_off80_eq L)) $$ [Hwb0 HsG0 HuB0]
  · isplitl [Hwb0]; · iexact Hwb0
    isplitl [HsG0]; · iexact HsG0
    iexact HuB0
  iintro HoB0
  iapply (rows_wait d L fT fI fB (rows_credit _ _ _)) $$ [HB1 HOw]
  · isplitl [HB1]; · iexact HB1
    iexact HOw
  iintro ⟨HB1, HsG1, HOw⟩
  iapply (outB_issue d L fT fB (j := 1) (i := i + 1) (show k0_off81 L k0_t1 8#32 = _ from (k0_off81_eq L k0_t1 1).trans (vec3 (by have e : ((1 : Fin 2) : ℕ) = 1 := rfl; unfold rb; omega))) (k0_off82_eq L)) $$ [Hwb1 HsG1 HuB1]
  · isplitl [Hwb1]; · iexact Hwb1
    isplitl [HsG1]; · iexact HsG1
    iexact HuB1
  iintro HoB1
  rw [dif_pos ((conds k0_t1).2.2 h)]
  simp only [Prog.lift, Prog.bind_op, Prog.bind_ret, wp_bind]
  iapply (part1_ok d L fT fI fB hL _ k0_t1 _ _ hi2 (by omega)) $$ [HoB0 HB0 Hix HOw]
  · isplitl [HoB0]; · iexact HoB0
    isplitl [HB0]; · iexact HB0
    isplitl [Hix]; · iexact Hix
    iexact HOw
  iintro %r1 %h1 HeB0 Hwb0 HB0 Hix HOw
  iapply (part2_ok d L fT fI fB hL k0_t1 _ _ _ hi2 h1.1 h1.2) $$ HB0
  iintro %r2 %h2 HB0
  iapply (part3_ok d L fT fI fB hL _ k0_t1 _ _ _ _ hi2 (by omega) h1.1 h2) $$ [HB0 HoB1 Hix HOw]
  · isplitl [HB0]; · iexact HB0
    isplitl [HoB1]; · iexact HoB1
    isplitl [Hix]; · iexact Hix
    iexact HOw
  iintro %r3 %h3 HB0 HeB1 Hsh1 Hwb1 Hix HOw
  iapply (part4_ok d L fT fI fB hL k0_t1 _ _ _ _ _ hi2 h3.1 h3.2) $$ [HB1 Hsh1]
  · isplitl [HB1]; · iexact HB1
    iexact Hsh1
  iintro %r4 %h4 HB1
  iapply (part5_ok d L fT fI fB hL _ k0_t1 _ _ _ _ _ _ hi2 h3.1 h4) $$ HB1
  iintro %r5 HB1
  iapply (outA_wait d L fT fB) $$ [HoA1 HOw]
  · isplitl [HoA1]; · iexact HoA1
    iexact HOw
  iintro ⟨⟨HeA, Hbuf1⟩, Hwa1, HOw⟩
  iapply (gather_issue d L fT fI fB hL gather_credit1 (i := i + 3) (by omega) ((k0_off122_eq k0_t1).trans (vec1 (by omega)))) $$ [HA1 Hbuf1]
  · isplitl [HA1]; · iexact HA1
    iexact Hbuf1
  iintro HA1
  simp only [wp_pure]
  imodintro
  iapply Hk
  ihave Hp' := (Entails.of_eq (pieces_put d L fT fB hit ht).symm) $$ [HdA HdB0 HdB1 HeA HeB0 HeB1 Hp]
  · unfold Done
    isplitr [Hp]
    swap; · iexact Hp
    isplitl [HdA HdB0 HdB1]
    · isplitl [HdA]; · iexact HdA
      isplitl [HdB0]; · iexact HdB0
      iexact HdB1
    · isplitl [HeA]; · iexact HeA
      isplitl [HeB0]; · iexact HeB0
      iexact HeB1
  isplitl [HA0]; · iexact HA0
  isplitl [HA1]; · iexact HA1
  isplitl [HB0]; · iexact HB0
  isplitl [HB1]; · iexact HB1
  isplitl [Hwa0]; · iexact Hwa0
  isplitl [Hwa1]; · iexact Hwa1
  isplitl [Hwb0]; · iexact Hwb0
  isplitl [Hwb1]; · iexact Hwb1
  isplitl [Hix]; · iexact Hix
  isplitl [HOw]; · iexact HOw
  iexact Hp'

theorem trip_last (hL : Lists fI fB) (k0_t1 : Fin k0_t1_loop.trips) (h : ¬ k0_t1.val < 7) {i : ℕ} (hit : i = 2 * k0_t1.val) {v2 : BitVec 32} {Q : PUnit → sProp 𝕄} :
    Mid d L fT fI fB q0 q1 qA0 qA1 qL0 qL1 O W i k0_t1.val
      ⊢ iprop((Last d L fT fI fB q0 q1 qA0 qA1 qL0 qL1 O W -∗ Q ⟨⟩)
        -∗ wp frame (wpE (defs₀ (F := F)) 𝒱₀ (thr d L) none) Set.univ (k0_part13 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 0#32 1#32 k0_t1) Q) := by
  have ht := trips_lt k0_t1
  have hi : i < 16 := by omega
  have hi1 : i + 1 < 16 := by omega
  rw [k0_part13_eq_skeleton]
  unfold k0_part13_skel Mid
  simp only [Prog.lift, Prog.bind_op, Prog.bind_ret, wp_bind]
  iintro ⟨HA0, HA1, HB0, HB1, Hwa0, Hwa1, Hwb0, Hwb1, Hix, HOw, Hp⟩ Hk
  ihave Hp' := (Entails.of_eq (pieces_take d L fT fB hit ht)) $$ Hp
  unfold Todo
  icases Hp' with ⟨⟨⟨HtA, HtB0, HtB1⟩, HuA, HuB0, HuB1⟩, Hp⟩
  iapply (part6_ok d L fT fI fB hL _ _ _ k0_t1 hi hit) $$ [HA0 HB0 Hwa0 Hwb0 HtA HtB0 HOw]
  · isplitl [HA0]; · iexact HA0
    isplitl [HB0]; · iexact HB0
    isplitl [Hwa0]; · iexact Hwa0
    isplitl [Hwb0]; · iexact Hwb0
    isplitl [HtA]; · iexact HtA
    isplitl [HtB0]; · iexact HtB0
    iexact HOw
  iintro %r HA0 HoA0 HB0 HoB0 HOw
  iapply (part7_ok d L fT fI fB hL _ k0_t1 _ _ hi hit) $$ [HB1 Hwb1 HtB1 HoB0 Hix HOw]
  · isplitl [HB1]; · iexact HB1
    isplitl [Hwb1]; · iexact Hwb1
    isplitl [HtB1]; · iexact HtB1
    isplitl [HoB0]; · iexact HoB0
    isplitl [Hix]; · iexact Hix
    iexact HOw
  iintro %r7 %h7 HB1 HoB1 HdB0 Hsh0 Hwb0 Hix HOw
  iapply (part8_ok d L fT fI fB hL _ _ _ hi1 h7.1 h7.2) $$ [HB0 Hsh0]
  · isplitl [HB0]; · iexact HB0
    iexact Hsh0
  iintro %r8 %h8 HB0
  iapply (part9_ok d L fT fI fB hL _ _ _ _ _ hi1 h7.1 h8) $$ HB0
  iintro %r9 HB0
  iapply (part10_ok d L fT fI fB hL k0_t1 _ _ hi1 hit) $$ [HoB1 HB1 Hix HOw]
  · isplitl [HoB1]; · iexact HoB1
    isplitl [HB1]; · iexact HB1
    isplitl [Hix]; · iexact Hix
    iexact HOw
  iintro %r10 %h10 HdB1 Hwb1 HB1 Hix HOw
  iapply (part11_ok d L fT fI fB hL _ _ _ hi1 h10.1 h10.2) $$ HB1
  iintro %r11 %h11 HB1
  iapply (part12_last_ok d L fT fI fB hL _ k0_t1 _ _ _ _ _ _ hi1 (by omega) (fun e => h ((conds k0_t1).1.1 e)) h10.1 h11) $$ [HB1 HA1 Hwa1 HuA HB0 HOw]
  · isplitl [HB1]; · iexact HB1
    isplitl [HA1]; · iexact HA1
    isplitl [Hwa1]; · iexact Hwa1
    isplitl [HuA]; · iexact HuA
    isplitl [HB0]; · iexact HB0
    iexact HOw
  iintro %r12 HB1 HA1 HoA1 HB0 HsG0 HOw
  iapply (outB_issue d L fT fB (j := 0) (i := i + 1) (show k0_off81 L k0_t1 0#32 = _ from (k0_off81_eq L k0_t1 0).trans (vec3 (by have e : ((0 : Fin 2) : ℕ) = 0 := rfl; unfold rb; omega))) (k0_off80_eq L)) $$ [Hwb0 HsG0 HuB0]
  · isplitl [Hwb0]; · iexact Hwb0
    isplitl [HsG0]; · iexact HsG0
    iexact HuB0
  iintro HoB0
  iapply (rows_wait d L fT fI fB (rows_credit _ _ _)) $$ [HB1 HOw]
  · isplitl [HB1]; · iexact HB1
    iexact HOw
  iintro ⟨HB1, HsG1, HOw⟩
  iapply (outB_issue d L fT fB (j := 1) (i := i + 1) (show k0_off81 L k0_t1 8#32 = _ from (k0_off81_eq L k0_t1 1).trans (vec3 (by have e : ((1 : Fin 2) : ℕ) = 1 := rfl; unfold rb; omega))) (k0_off82_eq L)) $$ [Hwb1 HsG1 HuB1]
  · isplitl [Hwb1]; · iexact Hwb1
    isplitl [HsG1]; · iexact HsG1
    iexact HuB1
  iintro HoB1
  rw [dif_neg (fun e => h ((conds k0_t1).2.1 e))]
  simp only [wp_pure]
  imodintro
  iapply Hk
  have e14 : i = 14 := by omega
  subst e14
  unfold Last
  have e7 : (⟨k0_t1.val, ht⟩ : Fin 8) = 7 := Fin.ext (by show k0_t1.val = 7; omega)
  rw [e7, show k0_t1.val = 7 by omega]
  isplitl [HA0]; · iexact HA0
  isplitl [HA1]; · iexact HA1
  isplitl [HB0]; · iexact HB0
  isplitl [HB1]; · iexact HB1
  isplitl [HoA0]; · iexact HoA0
  isplitl [HoA1]; · iexact HoA1
  isplitl [HoB0]; · iexact HoB0
  isplitl [HoB1]; · iexact HoB1
  isplitl [Hix]; · iexact Hix
  isplitl [HOw]; · iexact HOw
  isplitl [HdB0]; · iexact HdB0
  isplitl [HdB1]; · iexact HdB1
  iexact Hp

end Cert.Proof.Gather

end
-- ==== Proof.Tile.lean ====
/-
  One tile's task, whole: the opening, the loop, the last waits.
-/
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

variable {q0 q1 : Fin 8 → PosShare TreeShare} {qA0 qA1 qL0 qL1 : PosShare TreeShare} {O : CellTallies nD τ sig (HIx 1)} {W : Waits sig (HIx 1)}

/-- Before trip `t`, and after the last. -/
def Inv (q0 q1 : Fin 8 → PosShare TreeShare) (qA0 qA1 qL0 qL1 : PosShare TreeShare) (O : CellTallies nD τ sig (HIx 1)) (W : Waits sig (HIx 1)) (t : ℕ) : sProp 𝕄 :=
  if t < 8 then Mid d L fT fI fB q0 q1 qA0 qA1 qL0 qL1 O W (2 * t) t else Last d L fT fI fB q0 q1 qA0 qA1 qL0 qL1 O W

theorem trip (hL : Lists fI fB) (k0_t1 : Fin k0_t1_loop.trips) {v2 : BitVec 32} {Q : PUnit → sProp 𝕄} :
    Inv d L fT fI fB q0 q1 qA0 qA1 qL0 qL1 O W k0_t1.val
      ⊢ iprop((Inv d L fT fI fB q0 q1 qA0 qA1 qL0 qL1 O W (k0_t1.val + 1) -∗ Q ⟨⟩)
        -∗ wp frame (wpE (defs₀ (F := F)) 𝒱₀ (thr d L) none) Set.univ (k0_part13 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 0#32 1#32 k0_t1) Q) := by
  have ht := trips_lt k0_t1
  unfold Inv
  rw [if_pos ht]
  by_cases h : k0_t1.val < 7
  · rw [if_pos (by omega), show 2 * (k0_t1.val + 1) = 2 * k0_t1.val + 2 by omega]
    exact trip_next d L fT fI fB hL k0_t1 h rfl
  · rw [if_neg (by omega)]
    exact trip_last d L fT fI fB hL k0_t1 h rfl

theorem trips_eq : Scf.trips k0_t1_loop.lb k0_t1_loop.ub k0_t1_loop.st = 8 := by decide +kernel

theorem inv_end : Inv d L fT fI fB q0 q1 qA0 qA1 qL0 qL1 O W (Scf.trips k0_t1_loop.lb k0_t1_loop.ub k0_t1_loop.st) = Last d L fT fI fB q0 q1 qA0 qA1 qL0 qL1 O W := by
  rw [trips_eq]; exact if_neg (by decide)

theorem part18_ok (hL : Lists fI fB) (v2 : BitVec 32) (v57 : IVec S16 32) (v89 : BitVec 32) (k0_hw14 : k0_chk14 v89) (hv57 : Lanes L fI v57 0) (hv89 : v89 = rowNo L fI 0 1 5)
    {Q : BitVec 32 → sProp 𝕄} :
    iprop(Issued d L fT fI fB gb1 q1 1 0 5 ∗ Idle d L fT fB ga1 qA1 qL1 ∗ bufAny (F := F) d L buf1V ∗ Flying d L fT fB ga0 qA0 qL0 buf0V 0 ∗ Issued d L fT fI fB gb0 q0 0 0 8
        ∗ semVal (thr d L, .dma wa0) 0 ∗ semVal (thr d L, .dma wa1) 0 ∗ semVal (thr d L, .dma wb0) 0 ∗ semVal (thr d L, .dma wb1) 0
        ∗ ixP (F := F) d L (ixC fI L) ∗ Ow d L O W ∗ bigSep Finset.univ (Piece d L fT fB 0))
      ⊢ iprop((∀ r, iprop(Idle d L fT fB ga0 qA0 qL0 ∗ Idle d L fT fB ga1 qA1 qL1 ∗ Resting d L fT gb0 q0 ∗ Resting d L fT gb1 q1
            ∗ (outG d L fT fB (rb L + 256 * 14) 128 ∗ bufAny d L buf0V) ∗ semVal (thr d L, .dma wa0) 0
            ∗ OutA d L fT fB wa1 buf1V 15 ∗ OutB d L fT fB wb0 0 15 ∗ OutB d L fT fB wb1 1 15
            ∗ ixP (F := F) d L (ixC fI L) ∗ Ow d L O W
            ∗ outG d L fT fB (rb L + 256 * 14 + 128 + 64 * 0) 64 ∗ outG d L fT fB (rb L + 256 * 14 + 128 + 64 * 1) 64
            ∗ bigSep (Finset.univ.erase (7 : Fin 8)) (Piece d L fT fB 8)) -∗ Q r)
        -∗ wp frame (wpE (defs₀ (F := F)) 𝒱₀ (thr d L) none) Set.univ (k0_part18 L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1 v2 v57 v89 k0_hw14) Q) := by
  have hi : 0 < 16 := by decide
  rw [k0_part18_eq_skeleton]
  unfold k0_part18_skel
  simp only [Prog.lift, Prog.bind_op, Prog.bind_ret]
  iintro ⟨HB1, HA1, Hbuf1, HA0, HB0, Hwa0, Hwa1, Hwb0, Hwb1, Hix, HOw, Hp⟩ Hk
  iapply (row_issue d L fT fI fB hL (by decide) hi (by decide) hv89 rfl (k0_off29_eq L)) $$ HB1
  iintro HB1
  have hv95 : extractAt ![0] (k0_pay53 v57) inpos_S1_p0 = rowNo L fI 0 1 6 := lane L fI hv57 rfl rfl
  have c15 : k0_chk15 (extractAt ![0] (k0_pay53 v57) inpos_S1_p0) := in_table fI fB hL hv95
  iapply (checked d L c15)
  iapply (row_issue d L fT fI fB hL (by decide) hi (by decide) hv95 rfl (k0_off31_eq L)) $$ HB1
  iintro HB1
  have hv101 : extractAt ![0] (k0_pay54 v57) inpos_S1_p0 = rowNo L fI 0 1 7 := lane L fI hv57 rfl rfl
  have c16 : k0_chk16 (extractAt ![0] (k0_pay54 v57) inpos_S1_p0) := in_table fI fB hL hv101
  iapply (checked d L c16)
  iapply (row_issue d L fT fI fB hL (by decide) hi (by decide) hv101 rfl (k0_off33_eq L)) $$ HB1
  iintro HB1
  iapply (gather_issue d L fT fI fB hL gather_credit1 (i := 1) (by decide) (off := ![256]) rfl) $$ [HA1 Hbuf1]
  · isplitl [HA1]; · iexact HA1
    iexact Hbuf1
  iintro HA1
  iapply (Scf.wp_for_bind frame (wpE (defs₀ (F := F)) 𝒱₀ (thr d L) none) Set.univ k0_t1_loop.lb k0_t1_loop.ub k0_t1_loop.st k0_t1_ok 0#32 _
    (fun t _ => Inv d L fT fI fB q0 q1 qA0 qA1 qL0 qL1 O W t) (fun k acc => by
      unfold k0_t1_body
      simp only [wp_bind]
      iintro H
      iapply (trip d L fT fI fB hL k) $$ H
      iintro H
      simp only [wp_pure]
      imodintro
      iexact H)) $$ [HA0 HA1 HB0 HB1 Hwa0 Hwa1 Hwb0 Hwb1 Hix HOw Hp]
  · unfold Inv
    rw [if_pos (by decide)]
    unfold Mid
    isplitl [HA0]; · iexact HA0
    isplitl [HA1]; · iexact HA1
    isplitl [HB0]; · iexact HB0
    isplitl [HB1]; · iexact HB1
    isplitl [Hwa0]; · iexact Hwa0
    isplitl [Hwa1]; · iexact Hwa1
    isplitl [Hwb0]; · iexact Hwb0
    isplitl [Hwb1]; · iexact Hwb1
    isplitl [Hix]; · iexact Hix
    isplitl [HOw]; · iexact HOw
    iexact Hp
  iintro %acc H
  ihave H := (Entails.of_eq (inv_end d L fT fI fB)) $$ H
  unfold Last
  icases H with ⟨HA0, HA1, HB0, HB1, HoA0, HoA1, HoB0, HoB1, Hix, HOw, He0, He1, Hp⟩
  iapply (outA_wait d L fT fB) $$ [HoA0 HOw]
  · isplitl [HoA0]; · iexact HoA0
    iexact HOw
  iintro ⟨HdA, Hwa0, HOw⟩
  rw [wp_pure]; imodintro
  iapply Hk
  isplitl [HA0]; · iexact HA0
  isplitl [HA1]; · iexact HA1
  isplitl [HB0]; · iexact HB0
  isplitl [HB1]; · iexact HB1
  isplitl [HdA]; · iexact HdA
  isplitl [Hwa0]; · iexact Hwa0
  isplitl [HoA1]; · iexact HoA1
  isplitl [HoB0]; · iexact HoB0
  isplitl [HoB1]; · iexact HoB1
  isplitl [Hix]; · iexact Hix
  isplitl [HOw]; · iexact HOw
  isplitl [He0]; · iexact He0
  isplitl [He1]; · iexact He1
  iexact Hp

/-- The ten semaphores of the task. -/
def Sems : sProp 𝕄 := iprop(semVal (thr d L, .dma cc0_scoped0.sem) 0 ∗ semVal (thr d L, .dma cc0_scoped1.sem) 0 ∗ semVal (thr d L, .dma ga0) 0 ∗ semVal (thr d L, .dma ga1) 0 ∗ semVal (thr d L, .dma wa0) 0 ∗ semVal (thr d L, .dma wa1) 0 ∗ semVal (thr d L, .dma gb0) 0 ∗ semVal (thr d L, .dma gb1) 0 ∗ semVal (thr d L, .dma wb0) 0 ∗ semVal (thr d L, .dma wb1) 0)
/-- The task's scratch, whatever it holds. -/
def Scratch : sProp 𝕄 :=
  iprop((∃ f : S512.Idx → BitVec 32, ixP (F := F) d L f) ∗ (∃ f : S4096.Idx → BitVec 32, lsV.view.loc (thr d L) ↦{fullShare} (f : Buf (Elt F) (lsV.view.loc (thr d L))))
    ∗ bufAny (F := F) d L buf0V ∗ bufAny (F := F) d L buf1V ∗ shAny (F := F) d L 0 0 64 ∗ shAny (F := F) d L 1 0 64)
/-- The task's shares of what it reads. -/
def Reads (qT qI qE : PosShare TreeShare) : sProp 𝕄 := iprop(tabP d L fT qT ∗ idxP (F := F) d L fI qI ∗ ibP (F := F) d L fB qE)

abbrev qOf (q : PosShare TreeShare) (kk : Fin 8) : PosShare TreeShare := pieceOf q 8 (by decide) kk

/-- The task's share of the table in eighteen parts: one for each of the two gathers, one for each of the sixteen row copies. -/
theorem tab_parts (q : PosShare TreeShare) : tabP d L fT q
    = iprop((tabP d L fT q.left.left ∗ tabP d L fT q.left.right)
      ∗ (bigSep Finset.univ fun kk : Fin 8 => tabP d L fT (qOf q.right.left kk)) ∗ bigSep Finset.univ fun kk : Fin 8 => tabP d L fT (qOf q.right.right kk)) := by
  have h : ∀ q : PosShare TreeShare, tabP d L fT q = iprop(tabP d L fT q.left ∗ tabP d L fT q.right) := fun q =>
    BI.Entails.antisymm (pointsTo_share (PosShare.mem_left_op_right q)).1 (pointsTo_share (PosShare.mem_left_op_right q)).2
  have h8 : ∀ q : PosShare TreeShare, tabP d L fT q = bigSep Finset.univ fun kk : Fin 8 => tabP d L fT (qOf q kk) := fun q =>
    pointsTo_piecesOf (ℓ := tabV.view.loc (thr d L)) Finset.univ fT (o := 8) (by decide) q
  rw [h q, h q.left, h q.right, ← h8, ← h8]

theorem ls_parts : (lsP d L fB fullShare : sProp 𝕄) = iprop(lsP d L fB (fullShare : PosShare TreeShare).left ∗ lsP d L fB (fullShare : PosShare TreeShare).right) :=
  BI.Entails.antisymm (pointsTo_share (PosShare.mem_left_op_right _)).1 (pointsTo_share (PosShare.mem_left_op_right _)).2

theorem rows_cut (a b n k : ℕ) (hb : b = a + n) (f : S131072x2x128.Idx → Elt F .f32) :
    outP d L (rowsFrom a (n + k)) f = iprop(outP d L (rowsFrom a n) f ∗ outP d L (rowsFrom b k) f) := by
  subst hb
  have hsub : rowsFrom a n ⊆ rowsFrom a (n + k) := fun z hz => by rw [mem_rowsFrom] at hz ⊢; omega
  have hd : rowsFrom a (n + k) \ rowsFrom a n = rowsFrom (a + n) k := by
    ext z; rw [Finset.mem_sdiff, mem_rowsFrom, mem_rowsFrom, mem_rowsFrom]; omega
  rw [← hd]
  exact BI.Entails.antisymm (pointsTo_split_subset hsub).1 (pointsTo_split_subset hsub).2

theorem chunk_parts (n : ℕ) (f : S131072x2x128.Idx → Elt F .f32) :
    outP d L (rowsFrom (rb L + 256 * n) 256) f
      = iprop(outP d L (rowsFrom (rb L + 256 * n) 128) f ∗ outP d L (rowsFrom (rb L + 256 * n + 128 + 64 * 0) 64) f ∗ outP d L (rowsFrom (rb L + 256 * n + 128 + 64 * 1) 64) f) := by
  rw [← rows_cut d L (rb L + 256 * n + 128 + 64 * 0) (rb L + 256 * n + 128 + 64 * 1) 64 64 (by omega), ← rows_cut d L (rb L + 256 * n) (rb L + 256 * n + 128 + 64 * 0) 128 128 (by omega)]

theorem own_parts (f : S131072x2x128.Idx → Elt F .f32) :
    outP d L (rowsFrom (rb L) 4096) f
      = bigSep Finset.univ fun k : Fin 8 => iprop(outP d L (rowsFrom (rb L + 256 * (2 * k.val)) 256) f ∗ outP d L (rowsFrom (rb L + 256 * (2 * k.val + 1)) 256) f) := by
  have e : rowsFrom (rb L) 4096 = Finset.univ.biUnion fun k : Fin 8 => rowsFrom (rb L + 256 * (2 * k.val)) 512 := by
    ext z
    simp only [Finset.mem_biUnion, Finset.mem_univ, true_and, mem_rowsFrom]
    constructor
    · rintro ⟨h0, h1⟩
      exact ⟨⟨((z 0).val - rb L) / 512, by omega⟩, by show rb L + 256 * (2 * (((z 0).val - rb L) / 512)) ≤ _; omega, by show _ < rb L + 256 * (2 * (((z 0).val - rb L) / 512)) + 512; omega⟩
    · rintro ⟨k, h0, h1⟩
      have := k.isLt
      exact ⟨by omega, by omega⟩
  have hdisj : ∀ a ∈ (Finset.univ : Finset (Fin 8)), ∀ b ∈ (Finset.univ : Finset (Fin 8)), a ≠ b →
      Disjoint (rowsFrom (rb L + 256 * (2 * a.val)) 512) (rowsFrom (rb L + 256 * (2 * b.val)) 512) := by
    intro a _ b _ hab
    rw [Finset.disjoint_left]
    intro z ha hb
    rw [mem_rowsFrom] at ha hb
    exact hab (Fin.ext (by omega))
  rw [e]
  refine (pointsTo_biUnion _ _ hdisj).trans (bigSep_congr fun k _ => ?_)
  exact rows_cut d L _ _ 256 256 (by omega) f

theorem todo_of (n : ℕ) (f : S131072x2x128.Idx → Elt F .f32) : outP d L (rowsFrom (rb L + 256 * n) 256) f ⊢ Todo (F := F) d L n := by
  rw [chunk_parts]
  unfold Todo outAny
  iintro ⟨H0, H1, H2⟩
  isplitl [H0]; · iexists f; iexact H0
  isplitl [H1]; · iexists f; iexact H1
  iexists f; iexact H2

/-- The task's rows of the output are its trips' pieces: before the first, and after the last. -/
theorem pieces_start (f : S131072x2x128.Idx → Elt F .f32) : outP d L (rowsFrom (rb L) 4096) f ⊢ bigSep Finset.univ (Piece d L fT fB 0) := by
  rw [own_parts]
  refine bs_mono fun k => ?_
  unfold Piece
  rw [if_neg (Nat.not_lt_zero _)]
  iintro ⟨H0, H1⟩
  isplitl [H0]
  · iapply (todo_of d L _ f) $$ H0
  · iapply (todo_of d L _ f) $$ H1

theorem pieces_end : bigSep Finset.univ (Piece d L fT fB 8) = outP d L (rowsFrom (rb L) 4096) (G fT fB) := by
  rw [own_parts]
  refine bigSep_congr fun k _ => ?_
  unfold Piece
  rw [if_pos k.isLt, chunk_parts, chunk_parts]
  rfl

/-- The whole task. -/
theorem task_ok (hL : Lists fI fB) {qT qI qE : PosShare TreeShare} {f : S131072x2x128.Idx → Elt F .f32} {Q : PUnit → sProp 𝕄} :
    iprop(Sems (F := F) d L ∗ Scratch (F := F) d L ∗ Reads d L fT fI fB qT qI qE ∗ outP d L (rowsFrom (rb L) 4096) f ∗ Ow d L O W)
      ⊢ iprop((iprop(Sems (F := F) d L ∗ Scratch (F := F) d L ∗ Reads d L fT fI fB qT qI qE ∗ outP d L (rowsFrom (rb L) 4096) (G fT fB) ∗ Ow d L O W) -∗ Q ⟨⟩)
        -∗ wp frame (wpE (defs₀ (F := F)) 𝒱₀ (thr d L) none) Set.univ (cc0_k L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1) Q) := by
  rw [cc0_k_eq_skeleton]
  unfold cc0_k_skel Sems Scratch Reads
  rw [tab_parts]
  simp only [Prog.lift, Prog.bind_op, Prog.bind_ret, wp_bind]
  iintro ⟨⟨Hs0, Hs1, Hga0, Hga1, Hwa0, Hwa1, Hgb0, Hgb1, Hwb0, Hwb1⟩, ⟨⟨%fx, Hix⟩, ⟨%fl, Hls⟩, Hbuf0, Hbuf1, Hsh0, Hsh1⟩, ⟨⟨⟨HT0, HT1⟩, HR0, HR1⟩, HI, HE⟩, Ho, HOw⟩ Hk
  ihave Hp := (pieces_start d L fT fB f) $$ Ho
  ihave HrB0 := (show iprop(semVal (thr d L, .dma gb0) 0 ∗ (bigSep Finset.univ fun kk : Fin 8 => tabP d L fT (qOf qT.right.left kk))) ⊢ (Resting d L fT gb0 (qOf qT.right.left) : sProp 𝕄) by
    unfold Resting; iintro H; iexact H) $$ [Hgb0 HR0]
  · isplitl [Hgb0] <;> iassumption
  ihave HrB1 := (show iprop(semVal (thr d L, .dma gb1) 0 ∗ (bigSep Finset.univ fun kk : Fin 8 => tabP d L fT (qOf qT.right.right kk))) ⊢ (Resting d L fT gb1 (qOf qT.right.right) : sProp 𝕄) by
    unfold Resting; iintro H; iexact H) $$ [Hgb1 HR1]
  · isplitl [Hgb1] <;> iassumption
  iapply (part14_ok d L fT fI fB hL (Entails.of_eq (ls_parts d L fB))) $$ [Hs0 Hs1 HI Hix HE Hls Hga0 HT0 Hbuf0 HrB0 Hsh0 HOw]
  · isplitl [Hs0]; · iexact Hs0
    isplitl [Hs1]; · iexact Hs1
    isplitl [HI]; · iexact HI
    isplitl [Hix]; · iexact Hix
    isplitl [HE]; · iexact HE
    isplitl [Hls]; · iexact Hls
    isplitl [Hga0]; · iexact Hga0
    isplitl [HT0]; · iexact HT0
    isplitl [Hbuf0]; · iexact Hbuf0
    isplitl [HrB0]; · iexact HrB0
    isplitl [Hsh0]; · iexact Hsh0
    iexact HOw
  iintro %r14 %h14 Hs0 Hs1 HI Hix HE HL1 HA0 HB0 HOw
  iapply (part15_ok d L fT fI fB hL _ _ _ (by decide) h14.1 h14.2) $$ HB0
  iintro %r15 %h15 HB0
  iapply (part16_ok d L fT fI fB hL _ _ _ h14.1 h15) $$ [HB0 HrB1 Hsh1 Hix]
  · isplitl [HB0]; · iexact HB0
    isplitl [HrB1]; · iexact HrB1
    isplitl [Hsh1]; · iexact Hsh1
    iexact Hix
  iintro %r16 %h16 HB0 HB1 Hix
  iapply (part17_ok d L fT fI fB hL _ _ _ (by decide) h16.1 h16.2) $$ HB1
  iintro %r17 %h17 HB1
  ihave HA1 := (show iprop(semVal (thr d L, .dma ga1) 0 ∗ tabP d L fT qT.left.right ∗ lsP d L fB (fullShare : PosShare TreeShare).right)
      ⊢ (Idle d L fT fB ga1 qT.left.right (fullShare : PosShare TreeShare).right : sProp 𝕄) by
    unfold Idle; iintro H; iexact H) $$ [Hga1 HT1 HL1]
  · isplitl [Hga1]; · iexact Hga1
    isplitl [HT1] <;> iassumption
  iapply (part18_ok d L fT fI fB hL _ _ _ _ h16.1 h17) $$ [HB1 HA1 Hbuf1 HA0 HB0 Hwa0 Hwa1 Hwb0 Hwb1 Hix HOw Hp]
  · isplitl [HB1]; · iexact HB1
    isplitl [HA1]; · iexact HA1
    isplitl [Hbuf1]; · iexact Hbuf1
    isplitl [HA0]; · iexact HA0
    isplitl [HB0]; · iexact HB0
    isplitl [Hwa0]; · iexact Hwa0
    isplitl [Hwa1]; · iexact Hwa1
    isplitl [Hwb0]; · iexact Hwb0
    isplitl [Hwb1]; · iexact Hwb1
    isplitl [Hix]; · iexact Hix
    isplitl [HOw]; · iexact HOw
    iexact Hp
  iintro %r18 ⟨HA0, HA1, HB0, HB1, ⟨HdA, Hbuf0⟩, Hwa0, HoA1, HoB0, HoB1, Hix, HOw, He0, He1, Hp⟩
  iapply (outA_wait d L fT fB) $$ [HoA1 HOw]
  · isplitl [HoA1]; · iexact HoA1
    iexact HOw
  iintro ⟨⟨HeA, Hbuf1⟩, Hwa1, HOw⟩
  iapply (outB_wait d L fT fB) $$ [HoB0 HOw]
  · isplitl [HoB0]; · iexact HoB0
    iexact HOw
  iintro ⟨⟨Hf0, Hsh0⟩, Hwb0, HOw⟩
  iapply (outB_wait d L fT fB) $$ [HoB1 HOw]
  · isplitl [HoB1]; · iexact HoB1
    iexact HOw
  iintro ⟨⟨Hf1, Hsh1⟩, Hwb1, HOw⟩
  rw [wp_pure]; imodintro
  ihave Hp' := (Entails.of_eq (pieces_put d L fT fB (i := 14) (t := 7) rfl (by decide)).symm) $$ [HdA He0 He1 HeA Hf0 Hf1 Hp]
  · unfold Done
    isplitr [Hp]
    swap; · iexact Hp
    isplitl [HdA He0 He1]
    · isplitl [HdA]; · iexact HdA
      isplitl [He0]; · iexact He0
      iexact He1
    · isplitl [HeA]; · iexact HeA
      isplitl [Hf0]; · iexact Hf0
      iexact Hf1
  ihave Ho := (Entails.of_eq (pieces_end d L fT fB)) $$ Hp'
  unfold Idle Resting
  icases HA0 with ⟨Hga0, HT0, HL0⟩
  icases HA1 with ⟨Hga1, HT1, HL1⟩
  icases HB0 with ⟨Hgb0, HR0⟩
  icases HB1 with ⟨Hgb1, HR1⟩
  ihave Hls := (Entails.of_eq (ls_parts d L fB).symm) $$ [HL0 HL1]
  · isplitl [HL0] <;> iassumption
  iapply Hk
  isplitl [Hs0 Hs1 Hga0 Hga1 Hwa0 Hwa1 Hgb0 Hgb1 Hwb0 Hwb1]
  · isplitl [Hs0]; · iexact Hs0
    isplitl [Hs1]; · iexact Hs1
    isplitl [Hga0]; · iexact Hga0
    isplitl [Hga1]; · iexact Hga1
    isplitl [Hwa0]; · iexact Hwa0
    isplitl [Hwa1]; · iexact Hwa1
    isplitl [Hgb0]; · iexact Hgb0
    isplitl [Hgb1]; · iexact Hgb1
    isplitl [Hwb0]; · iexact Hwb0
    iexact Hwb1
  isplitl [Hix Hls Hbuf0 Hbuf1 Hsh0 Hsh1]
  · isplitl [Hix]; · iexists _; iexact Hix
    isplitl [Hls]; · iexists _; iexact Hls
    isplitl [Hbuf0]; · iexact Hbuf0
    isplitl [Hbuf1]; · iexact Hbuf1
    isplitl [Hsh0]; · iexact Hsh0
    iexact Hsh1
  isplitl [HT0 HT1 HR0 HR1 HI HE]
  · isplitl [HT0 HT1 HR0 HR1]
    · isplitl [HT0 HT1]
      · isplitl [HT0] <;> iassumption
      isplitl [HR0] <;> iassumption
    isplitl [HI] <;> iassumption
  isplitl [Ho]; · iexact Ho
  iexact HOw

end Cert.Proof.Gather

end
-- ==== Proof.Body.lean ====
/-
  One tile's task from what its sequencer hands it and what it owns.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (fT : S131072x2x128.Idx → Elt F .f32) (fI : S16384.Idx → BitVec 32) (fB : S131072.Idx → BitVec 32)

variable {O : CellTallies nD τ sig (HIx 1)} {W : Waits sig (HIx 1)}

/-! ## What a tile owns -/

/-- The task's ten semaphores and its four scratch buffers, by number. -/
def semOf : Fin 10 → SemLoc sig := ![.dma cc0_scoped0.sem, .dma cc0_scoped1.sem, .dma ga0, .dma ga1, .dma wa0, .dma wa1, .dma gb0, .dma gb1, .dma wb0, .dma wb1]
def refOf : Fin 4 → Ref sig .scVector := ![cc0_scratch0, cc0_scratch1, cc0_scratch2, cc0_scratch3]

theorem semOf_inj : Function.Injective semOf := by decide +kernel
theorem semOf_scoped : ∀ i, (semOf i).isScoped .scVector = true := by decide +kernel
theorem refOf_inj : Function.Injective refOf := by decide +kernel
theorem refOf_own (c : Fin τ.nSC) (j : Fin τ.nSub) : ∀ i, ((Proc.scVector c j).devRef (refOf i)).owner = .proc (.scVector c j) := by
  intro i
  fin_cases i <;> rfl

/-- The semaphores the task does not name, and the buffers. -/
def semRest : sProp 𝕄 := bigSep (ownCells (thr d L) \ (Finset.univ.image fun i => ((thr d L, semOf i) : GSem nD τ sig))) fun g => semVal g 0
def bufRest : sProp 𝕄 := bigSep (ownRefs (Proc.scVector (cV L) (jV L)) \ (Finset.univ.image fun i => (Proc.scVector (cV L) (jV L)).devRef (refOf i)))
  fun b => iprop(∃ f, ((d, b) : Loc nD τ sig) ↦{fullShare} f)

theorem ownSems_eq : (ownSems0 (thr d L) : sProp 𝕄) = iprop(Sems (F := F) d L ∗ semRest (F := F) d L) := by
  have hsub : (Finset.univ.image fun i => ((thr d L, semOf i) : GSem nD τ sig)) ⊆ ownCells (thr d L) := by
    intro g hg
    obtain ⟨i, -, rfl⟩ := Finset.mem_image.mp hg
    exact mem_ownCells.mpr ⟨rfl, semOf_scoped i⟩
  unfold ownSems0
  rw [SparseCore.bigSep_sdiff_split' hsub, SparseCore.bigSep_image_of_injOn (f := fun i => ((thr d L, semOf i) : GSem nD τ sig)) (fun a _ b _ h => semOf_inj (Prod.mk.inj h).2)]
  rw [bigSep_univ_succ, bigSep_univ_succ, bigSep_univ_succ, bigSep_univ_succ, bigSep_univ_succ, bigSep_univ_succ, bigSep_univ_succ, bigSep_univ_succ, bigSep_univ_succ,
    bigSep_univ_of_subsingleton (0 : Fin 1)]
  rfl

/-- The task's own scratch, whatever it holds. -/
def Own : sProp 𝕄 :=
  iprop((∃ f : S512.Idx → BitVec 32, ixP (F := F) d L f) ∗ (∃ f : S4096.Idx → BitVec 32, lsV.view.loc (thr d L) ↦{fullShare} (f : Buf (Elt F) (lsV.view.loc (thr d L))))
    ∗ bufAny (F := F) d L buf0V ∗ bufAny (F := F) d L buf1V)

theorem ownBufs_eq : (ownBufs (thr d L) : sProp 𝕄) = iprop(Own (F := F) d L ∗ bufRest (F := F) d L) := by
  have hsub : (Finset.univ.image fun i => (Proc.scVector (cV L) (jV L)).devRef (refOf i)) ⊆ ownRefs (Proc.scVector (cV L) (jV L)) := by
    intro b hb
    obtain ⟨i, -, rfl⟩ := Finset.mem_image.mp hb
    exact SparseCore.Cfg.mem_ownRefs_of_owner (refOf_own _ _ i)
  unfold ownBufs
  rw [show (thr d L).2 = Proc.scVector (cV L) (jV L) from rfl, SparseCore.bigSep_sdiff_split' hsub,
    SparseCore.bigSep_image_of_injOn (f := fun i => (Proc.scVector (cV L) (jV L)).devRef (refOf i)) (fun a _ b _ h => refOf_inj (Proc.devRef_injective _ h))]
  rw [bigSep_univ_succ, bigSep_univ_succ, bigSep_univ_succ, bigSep_univ_of_subsingleton (0 : Fin 1)]
  unfold Own bufRest bufAny
  rw [show buf0V.view.set = Finset.univ from View.set_whole _, show buf1V.view.set = Finset.univ from View.set_whole _]
  rfl

/-! ## What the sequencer hands a tile -/

/-- The task's shares of what it reads, its rows of the output holding `f`, and its two blocks of the shared scratch. -/
def Hand (qT qI qE : PosShare TreeShare) (f : S131072x2x128.Idx → Elt F .f32) : sProp 𝕄 :=
  iprop(Reads d L fT fI fB qT qI qE ∗ outP d L (rowsFrom (rb L) 4096) f ∗ shAny (F := F) d L 0 0 64 ∗ shAny (F := F) d L 1 0 64)

theorem tile_body (hF : (K (F := F)).Facts) (hL : Lists fI fB) {qT qI qE : PosShare TreeShare} {f : S131072x2x128.Idx → Elt F .f32} (hO : ∀ g, O g none = 0) :
    iprop(levAts (K (F := F)).L (K (F := F)).lev ∗ emp ∗ Hand d L fT fI fB qT qI qE f ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (cc0_k L tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1) fun _ =>
          iprop(Hand d L fT fI fB qT qI qE (G fT fB) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems_eq, ownBufs_eq]
  unfold Hand Own
  iintro ⟨#Hlv, -, ⟨Hr, Ho, Hsh0, Hsh1⟩, ⟨⟨Hix, Hls, Hb0, Hb1⟩, Hbr⟩, ⟨Hs, Hsr⟩, HO⟩
  ihave Hmw := (show levAts (K (F := F)).L (K (F := F)).lev ⊢ (Transfers.MayWaits (thr d L) (default : HIx 1) O : sProp 𝕄) from (K (F := F)).mayWaits_none (thr := thr d L) hO) $$ Hlv
  iapply (task_ok d L fT fI fB (O := O) (W := W) hL (qT := qT) (qI := qI) (qE := qE) (f := f)) $$ [Hs Hix Hls Hb0 Hb1 Hsh0 Hsh1 Hr Ho HO Hmw]
  · isplitl [Hs]; · iexact Hs
    isplitl [Hix Hls Hb0 Hb1 Hsh0 Hsh1]
    · unfold Scratch
      isplitl [Hix]; · iexact Hix
      isplitl [Hls]; · iexact Hls
      isplitl [Hb0]; · iexact Hb0
      isplitl [Hb1]; · iexact Hb1
      isplitl [Hsh0]; · iexact Hsh0
      iexact Hsh1
    isplitl [Hr]; · iexact Hr
    isplitl [Ho]; · iexact Ho
    unfold Ow
    isplitl [Hmw]; · iexact Hmw
    iexists W
    isplitr [HO]
    · ipureintro; exact fun p hp => Or.inl hp
    · iexact HO
  unfold Scratch Ow
  iintro ⟨Hs, ⟨Hix, Hls, Hb0, Hb1, Hsh0, Hsh1⟩, Hr, Ho, -, HO⟩
  isplitl [Hr Ho Hsh0 Hsh1]
  · isplitl [Hr]; · iexact Hr
    isplitl [Ho]; · iexact Ho
    isplitl [Hsh0]; · iexact Hsh0
    iexact Hsh1
  isplitl [Hix Hls Hb0 Hb1 Hbr]
  · isplitr [Hbr]
    · isplitl [Hix]; · iexact Hix
      isplitl [Hls]; · iexact Hls
      isplitl [Hb0]; · iexact Hb0
      iexact Hb1
    · iexact Hbr
  isplitl [Hs Hsr]
  · isplitl [Hs]; · iexact Hs
    iexact Hsr
  iexact HO

end Cert.Proof.Gather

end
-- ==== Proof.Split.lean ====
/-
  How the call's operands split into the tiles' shares and its results gather from theirs.
-/
module

public import proofs.«01_k».proof.Proof.Body

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (fT fO : Dev nD → S131072x2x128.Idx → Elt F .f32) (fI : S16384.Idx → BitVec 32) (fB : S131072.Idx → BitVec 32)

/-- The coordinates of task `i` of SparseCore `c`. -/
def coordsV (c : Fin 2) (s : Fin 16) : grid0.Coords :=
  fun | 0 => c | 1 => s | ⟨_ + 2, h⟩ => absurd h (Nat.not_lt.2 (Nat.le_add_left _ _))

/-- The share of what is read that SparseCore `c` has, and its task `i`. -/
abbrev qC (c : Fin 2) : PosShare TreeShare := pieceOf fullShare 2 (by decide) c
abbrev qS (c : Fin 2) (i : Fin 16) : PosShare TreeShare := pieceOf (qC c) 16 (by decide) i

/-- The rows of the output SparseCore `c` writes: one run of 4096 for each task. -/
def coreRows (c : Fin 2) : Finset S131072x2x128.Idx := Finset.univ.biUnion fun s : Fin 16 => rowsFrom (8192 * s.val + 4096 * c.val) 4096

theorem rows_disjoint (c : Fin 2) : ∀ a ∈ (Finset.univ : Finset (Fin 16)), ∀ b ∈ (Finset.univ : Finset (Fin 16)), a ≠ b →
    Disjoint (rowsFrom (8192 * a.val + 4096 * c.val) 4096) (rowsFrom (8192 * b.val + 4096 * c.val) 4096) := by
  intro a _ b _ hab
  rw [Finset.disjoint_left]
  intro z ha hb
  rw [mem_rowsFrom] at ha hb
  exact hab (Fin.ext (by omega))

theorem mem_coreRows {c : Fin 2} {x : S131072x2x128.Idx} : x ∈ coreRows c ↔ ((x 0).val / 4096) % 2 = c.val := by
  have hx : (x 0).val < 131072 := (x 0).isLt
  have hc := c.isLt
  simp only [coreRows, Finset.mem_biUnion, Finset.mem_univ, true_and, mem_rowsFrom]
  constructor
  · rintro ⟨s, h0, h1⟩; omega
  · intro h
    exact ⟨⟨(x 0).val / 8192, by omega⟩, by show 8192 * ((x 0).val / 8192) + 4096 * c.val ≤ _; omega, by show _ < 8192 * ((x 0).val / 8192) + 4096 * c.val + 4096; omega⟩

theorem coreRows_disjoint : ∀ a ∈ (Finset.univ : Finset (Fin 2)), ∀ b ∈ (Finset.univ : Finset (Fin 2)), a ≠ b → Disjoint (coreRows a) (coreRows b) := by
  intro a _ b _ hab
  rw [Finset.disjoint_left]
  intro z ha hb
  rw [mem_coreRows] at ha hb
  exact hab (Fin.ext (ha.symm.trans hb))

theorem coreRows_cover : (Finset.univ : Finset (Fin 2)).biUnion coreRows = Finset.univ := by
  ext x
  simp only [Finset.mem_biUnion, Finset.mem_univ, true_and, mem_coreRows, iff_true]
  exact ⟨⟨((x 0).val / 4096) % 2, Nat.mod_lt _ (by decide)⟩, rfl⟩

/-- What SparseCore `c` is handed, its rows of the output holding `f`. -/
def Core (d : Dev nD) (c : Fin 2) (f : S131072x2x128.Idx → Elt F .f32) : sProp 𝕄 :=
  iprop((tabLoc d ↦{qC c} (fT d : Buf (Elt F) (tabLoc d))) ∗ (idxLoc d ↦{qC c} (fI : Buf (Elt F) (idxLoc d))) ∗ (ibLoc d ↦{qC c} (fB : Buf (Elt F) (ibLoc d)))
    ∗ outLoc d ↦[coreRows c]{fullShare} (f : Buf (Elt F) (outLoc d)))

/-- What task `i` of it is. -/
abbrev Task (d : Dev nD) (c : Fin 2) (i : Fin 16) (f : S131072x2x128.Idx → Elt F .f32) : sProp 𝕄 :=
  Hand d (coordsV c i) (fT d) fI fB (qS c i) (qS c i) (qS c i) f

/-- What the handshakes carry. -/
def P : (K (F := F)).Pay (nD := nD) (Val := Elt F) (Name := ℕ) (U := UU) where
  st := fun q d c => match q with | 0 => Core fT fI fB d ⟨c.val, c.isLt⟩ (fO d)
  dn := fun q d c => match q with | 0 => Core fT fI fB d ⟨c.val, c.isLt⟩ (G (fT d) fB)
  go := fun q d c i => match q with | 0 => Task fT fI fB d ⟨c.val, c.isLt⟩ ⟨i.val, i.isLt⟩ (fO d)
  td := fun q d c i => match q with | 0 => Task fT fI fB d ⟨c.val, c.isLt⟩ ⟨i.val, i.isLt⟩ (G (fT d) fB)
  x := fun _ _ => iprop(emp)

instance core_storable (d : Dev nD) (c : Fin 2) (f : S131072x2x128.Idx → Elt F .f32) : BI.Storable (upEmb : UEmb _ 𝕄) (Core fT fI fB d c f) := by
  unfold Core; infer_instance
instance hand_storable (d : Dev nD) (L : grid0.Coords) (gT f : S131072x2x128.Idx → Elt F .f32) (qT qI qE : PosShare TreeShare) :
    BI.Storable (upEmb : UEmb _ 𝕄) (Hand d L gT fI fB qT qI qE f) := by
  unfold Hand Reads shAny; infer_instance

instance P_storable : (P fT fO fI fB).IsStorable where
  st q d c := match q with | 0 => core_storable fT fI fB d _ _
  dn q d c := match q with | 0 => core_storable fT fI fB d _ _
  go q d c i := match q with | 0 => hand_storable fI fB d _ _ _ _ _ _
  td q d c i := match q with | 0 => hand_storable fI fB d _ _ _ _ _ _

/-! ## The task's obligation -/

theorem defs₀_vector (c : Fin τ.nSC) (s : Fin τ.nSub) :
    defs₀ (F := F) (.scVector c s) 0 () = SparseCore.onTile hcore0 hsub0 (fun c s => cc0_k (coordsV c s) tabV (Memref.isWhole_whole _) idxV (Memref.isWhole_whole _) ibV (Memref.isWhole_whole _) outV (Memref.isWhole_whole _) ixV (Memref.isWhole_whole _) lsV (Memref.isWhole_whole _) buf0V (Memref.isWhole_whole _) buf1V (Memref.isWhole_whole _) shV (Memref.isWhole_whole _) cc0_scratch5 cc0_scratch6 cc0_scratch7 cc0_scratch8 cc0_scratch9 cc0_scratch10 cc0_scratch11 cc0_scratch12 cc0_scoped0 cc0_scoped1) ⟨⟩ c s := rfl

/-- The waits a task records are within what the launch allows it. -/
theorem waits_le {t : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes t O W')
      ⊢ iprop(X ∗ Y ∗ Z ∗ ∃ W', ⌜∀ p ∈ W', p ∈ W ∨ p.2 = none ∨ p.2 = some q⌝ ∗ owes t O W') := by
  iintro ⟨HX, HY, HZ, %W', %hW', HO⟩
  isplitl [HX]; · iexact HX
  isplitl [HY]; · iexact HY
  isplitl [HZ]; · iexact HZ
  iexists W'
  isplitr [HO]
  · ipureintro; exact fun p hp => (hW' p hp).imp_right Or.inl
  · iexact HO

set_option maxRecDepth 16384 in
theorem tileObl (hF : (K (F := F)).Facts) (hL : Lists fI fB) : (K (F := F)).TileObl (D (F := F)) 𝒱 (P fT fO fI fB) v₀ 0 := by
  intro d c i O W hO _ _
  simp only [show (P fT fO fI fB).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fT d) fI fB hF hL hO).trans (wp_mono frame _ _ fun _ => waits_le)

/-! ## The operands, shared and split; the shared scratch, block by block -/

theorem sep_regroup (X Y Z : sProp 𝕄) : iprop((X ∗ Y) ∗ Z) = iprop(X ∗ Y ∗ Z) := equiv_iff.mp ⟨BI.sep_assoc, BI.sep_assoc'⟩

theorem core_tasks (d : Dev nD) (c : Fin 2) (f : S131072x2x128.Idx → Elt F .f32) :
    Core fT fI fB d c f
      = bigSep Finset.univ fun i : Fin 16 => iprop(Reads d (coordsV c i) (fT d) fI fB (qS c i) (qS c i) (qS c i) ∗ outP d (coordsV c i) (rowsFrom (rb (coordsV c i)) 4096) f) := by
  unfold Reads
  rw [bigSep_sep', bigSep_sep', bigSep_sep']
  unfold Core coreRows
  rw [pointsTo_piecesOf (ℓ := tabLoc d) (Val := Elt F) Finset.univ (fT d) (o := 16) (by decide) (qC c), pointsTo_piecesOf (ℓ := idxLoc d) (Val := Elt F) Finset.univ fI (o := 16) (by decide) (qC c),
    pointsTo_piecesOf (ℓ := ibLoc d) (Val := Elt F) Finset.univ fB (o := 16) (by decide) (qC c), pointsTo_biUnion (ℓ := outLoc d) _ _ (rows_disjoint c), sep_regroup, sep_regroup]
  rfl

/-- The blocks of the shared scratch: two for each task. -/
def block (p : Fin 16 × Fin 2) : Finset S16x2x64x2x128.Idx := shRows p.1.val p.2.val 0 64

theorem block_disjoint : ∀ a ∈ (Finset.univ : Finset (Fin 16 × Fin 2)), ∀ b ∈ (Finset.univ : Finset (Fin 16 × Fin 2)), a ≠ b → Disjoint (block a) (block b) := by
  intro a _ b _ hab
  rw [Finset.disjoint_left]
  intro z ha hb
  unfold block at ha hb
  rw [mem_shRows] at ha hb
  exact hab (Prod.ext (Fin.ext (ha.1.symm.trans hb.1)) (Fin.ext (ha.2.1.symm.trans hb.2.1)))

theorem block_cover : (Finset.univ : Finset (Fin 16 × Fin 2)).biUnion block = Finset.univ := by
  ext x
  have hx : (x 2).val < 64 := (x 2).isLt
  simp only [Finset.mem_biUnion, Finset.mem_univ, true_and, block, mem_shRows, iff_true]
  exact ⟨(x 0, x 1), rfl, rfl, Nat.zero_le _, by omega⟩

theorem shared_parts (d : Dev nD) (c : Fin 2) (f : Buf (Elt F) (shLoc d (c.castLE hcore0))) :
    (shLoc d (c.castLE hcore0) ↦{fullShare} f : sProp 𝕄)
      = bigSep Finset.univ fun i : Fin 16 => iprop((shLoc d (c.castLE hcore0) ↦[shRows i.val 0 0 64]{fullShare} f) ∗ shLoc d (c.castLE hcore0) ↦[shRows i.val 1 0 64]{fullShare} f) := by
  rw [← block_cover, pointsTo_biUnion (ℓ := shLoc d (c.castLE hcore0)) _ _ block_disjoint, bigSep_univ_prod]
  refine bigSep_congr fun i _ => ?_
  rw [bigSep_univ_succ, bigSep_univ_of_subsingleton (0 : Fin 1)]
  rfl

/-- Each task's two blocks, whatever they hold, are the shared scratch, whatever it holds. -/
theorem shared_blocks (d : Dev nD) (c : Fin 2) :
    (iprop(∃ f : Buf (Elt F) (shLoc d (c.castLE hcore0)), shLoc d (c.castLE hcore0) ↦{fullShare} f) : sProp 𝕄)
      ⊢ bigSep Finset.univ fun i : Fin 16 => iprop(shAny (F := F) d (coordsV c i) 0 0 64 ∗ shAny (F := F) d (coordsV c i) 1 0 64) := by
  have h (f : Buf (Elt F) (shLoc d (c.castLE hcore0))) : (bigSep Finset.univ fun i : Fin 16 =>
        iprop((shLoc d (c.castLE hcore0) ↦[shRows i.val 0 0 64]{fullShare} f) ∗ shLoc d (c.castLE hcore0) ↦[shRows i.val 1 0 64]{fullShare} f))
      ⊢ (bigSep Finset.univ fun i : Fin 16 => iprop(shAny (F := F) d (coordsV c i) 0 0 64 ∗ shAny (F := F) d (coordsV c i) 1 0 64) : sProp 𝕄) := by
    refine bs_mono fun i => ?_
    unfold shAny
    iintro ⟨H0, H1⟩
    isplitl [H0]
    · iexists f; iexact H0
    · iexists f; iexact H1
  iintro ⟨%f, H⟩
  ihave H := (Entails.of_eq (shared_parts d c f)) $$ H
  iapply (h f) $$ H

set_option maxRecDepth 4096 in
theorem blocks_shared (d : Dev nD) (c : Fin 2) :
    (bigSep Finset.univ fun i : Fin 16 => iprop(shAny (F := F) d (coordsV c i) 0 0 64 ∗ shAny (F := F) d (coordsV c i) 1 0 64))
      ⊢ (iprop(∃ f : Buf (Elt F) (shLoc d (c.castLE hcore0)), shLoc d (c.castLE hcore0) ↦{fullShare} f) : sProp 𝕄) := by
  have e : (bigSep Finset.univ fun i : Fin 16 => iprop(shAny (F := F) d (coordsV c i) 0 0 64 ∗ shAny (F := F) d (coordsV c i) 1 0 64))
      = bigSep Finset.univ fun p : Fin 16 × Fin 2 => iprop(∃ f : Buf (Elt F) (shLoc d (c.castLE hcore0)), shLoc d (c.castLE hcore0) ↦[block p]{fullShare} f) := by
    rw [bigSep_univ_prod]
    refine bigSep_congr fun i _ => ?_
    rw [bigSep_univ_succ, bigSep_univ_of_subsingleton (0 : Fin 1)]
    rfl
  rw [e]
  iintro H
  by_cases hn : Nonempty (Buf (Elt F) (shLoc d (c.castLE hcore0)))
  · ihave H := (bigSep_exists_pi Finset.univ (fun p (f : Buf (Elt F) (shLoc d (c.castLE hcore0))) => shLoc d (c.castLE hcore0) ↦[block p]{fullShare} f)) $$ H
    icases H with ⟨%fs, H⟩
    ihave H' := (pointsTo_biUnion_join (ℓ := shLoc d (c.castLE hcore0)) (q := fullShare) (Val := Elt F) Finset.univ block fs (fs (0, 0)) block_disjoint) $$ H
    icases H' with ⟨%g, -, Hg⟩
    rw [block_cover]
    iexists g; iexact Hg
  · ihave H := (Entails.of_eq (SparseCore.bigSep_erase' (Finset.mem_univ ((0 : Fin 16), (0 : Fin 2))))) $$ H
    icases H with ⟨⟨%f, -⟩, -⟩
    exact absurd ⟨f⟩ hn

/-- The shared scratch is among the sequencer's own buffers. -/
theorem ownBufs_S (d : Dev nD) (c : Fin τ.nSC) :
    (ownBufs (S d c) : sProp 𝕄)
      = iprop((∃ f : Buf (Elt F) (shLoc d c), shLoc d c ↦{fullShare} f) ∗ bigSep ((ownRefs (τ := τ) (.scScalar c)).erase (shRef c)) fun b => iprop(∃ f, ((d, b) : Loc nD τ sig) ↦{fullShare} f)) := by
  unfold ownBufs
  exact SparseCore.bigSep_erase' ((mem_ownRefs (p := Proc.scScalar c) (b := shRef c)).mpr rfl)

/-- What is handed a SparseCore, with its shared scratch, is what its tasks are handed. -/
theorem core_split (d : Dev nD) (c : Fin 2) (f : S131072x2x128.Idx → Elt F .f32) :
    (bigSep Finset.univ fun i : Fin 16 => Task fT fI fB d c i f)
      = iprop(Core fT fI fB d c f ∗ bigSep Finset.univ fun i : Fin 16 => iprop(shAny (F := F) d (coordsV c i) 0 0 64 ∗ shAny (F := F) d (coordsV c i) 1 0 64)) := by
  rw [core_tasks, ← bigSep_sep']
  refine bigSep_congr fun i _ => ?_
  unfold Task Hand
  rw [sep_regroup]

theorem vecSplit : (K (F := F)).VecSplit (P fT fO fI fB) 0 := by
  intro d c
  show iprop(Core fT fI fB d ⟨c.val, c.isLt⟩ (fO d) ∗ ownBufs (S d ((⟨c.val, c.isLt⟩ : Fin 2).castLE hcore0))) ⊢ |={Set.univ}=> iprop(
      (bigSep Finset.univ fun i : Fin 16 => Task fT fI fB d ⟨c.val, c.isLt⟩ i (fO d))
      ∗ ((bigSep Finset.univ fun i : Fin 16 => Task fT fI fB d ⟨c.val, c.isLt⟩ i (G (fT d) fB))
          -∗ iprop(Core fT fI fB d ⟨c.val, c.isLt⟩ (G (fT d) fB) ∗ ownBufs (S d ((⟨c.val, c.isLt⟩ : Fin 2).castLE hcore0)))))
  rw [core_split, core_split, ownBufs_S]
  iintro ⟨Hc, Hs, Hrest⟩; imodintro
  isplitl [Hc Hs]
  · isplitl [Hc]; · iexact Hc
    iapply (shared_blocks d _) $$ Hs
  iintro ⟨Hc, Hs⟩
  isplitl [Hc]; · iexact Hc
  isplitl [Hs]
  · iapply (blocks_shared d _) $$ Hs
  · iexact Hrest

end Cert.Proof.Gather

end
-- ==== Proof.Launch.lean ====
/-
  The launch: @main on the TensorCore around the call, and the program's run.
-/
module

public import proofs.«01_k».proof.Proof.Split

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held held_sub_split held_congr tcRefs seq seqK seq_bind_seqK after wp_seq wp_hlo_within nullary_bufs_sub unary_bufs_sub binary_bufs_sub reshape_bufs_sub)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

/-- What stands before the call, and after it. -/
abbrev pre : List (HloOp τ sig (Elt F)) :=
  [ StableHlo.nullary main_c (fun i => lit0 (S16384.rowMajor i)),
    StableHlo.reshape main_arg0 main_v0 (rfl : (.f32 : EltTy) = .f32) shapeCasts_S4x4096x2048_S131072x2x128,
    StableHlo.unary main_c main_v1 (broadcastInDim S16384x1 ![0] bcast_S16384_S16384x1_0 : (⟨S16384, .i32⟩ : BufTy).Contents (Elt F) → (⟨S16384x1, .i32⟩ : BufTy).Contents (Elt F)),
    StableHlo.nullary main_c_0 (constantI S_ 32 8#32),
    StableHlo.unary main_c_0 main_v2 (broadcastInDim S16384x1 ![] bcast_S_S16384x1 : (⟨S_, .i32⟩ : BufTy).Contents (Elt F) → (⟨S16384x1, .i32⟩ : BufTy).Contents (Elt F)),
    StableHlo.binary main_v1 main_v2 main_v3 (muli : (⟨S16384x1, .i32⟩ : BufTy).Contents (Elt F) → (⟨S16384x1, .i32⟩ : BufTy).Contents (Elt F) → (⟨S16384x1, .i32⟩ : BufTy).Contents (Elt F)),
    StableHlo.nullary main_v4 (iotaInDim S8 32 0),
    StableHlo.unary main_v4 main_v5 (broadcastInDim S1x8 ![1] bcast_S8_S1x8_1 : (⟨S8, .i32⟩ : BufTy).Contents (Elt F) → (⟨S1x8, .i32⟩ : BufTy).Contents (Elt F)),
    StableHlo.unary main_v3 main_v6 (broadcastInDim S16384x8 ![0, 1] bcast_S16384x1_S16384x8_0_1 : (⟨S16384x1, .i32⟩ : BufTy).Contents (Elt F) → (⟨S16384x8, .i32⟩ : BufTy).Contents (Elt F)),
    StableHlo.unary main_v5 main_v7 (broadcastInDim S16384x8 ![0, 1] bcast_S1x8_S16384x8_0_1 : (⟨S1x8, .i32⟩ : BufTy).Contents (Elt F) → (⟨S16384x8, .i32⟩ : BufTy).Contents (Elt F)),
    StableHlo.binary main_v6 main_v7 main_v8 (addi : (⟨S16384x8, .i32⟩ : BufTy).Contents (Elt F) → (⟨S16384x8, .i32⟩ : BufTy).Contents (Elt F) → (⟨S16384x8, .i32⟩ : BufTy).Contents (Elt F)),
    StableHlo.reshape main_v8 main_v9 (rfl : (.i32 : EltTy) = .i32) shapeCasts_S16384x8_S131072 ]
abbrev post : HloOp τ sig (Elt F) := StableHlo.reshape main_v10 main_v11 (rfl : (.f32 : EltTy) = .f32) shapeCasts_S131072x2x128_S4x4096x2048

theorem main_eq (d : Dev nD) : main (F := F) d = (seq pre >>= fun _ => ((K (F := F)).run d 0 >>= fun _ => hlo rfl post fun _ => .ret (⟨⟩ : PUnit))) := by
  rw [seq_bind_seqK]; rfl

theorem pre_sub : (pre : List (HloOp τ sig (Elt F))).Forall fun op => op.bufs ⊆ tcRefs τ sig :=
  ⟨nullary_bufs_sub .., reshape_bufs_sub .., unary_bufs_sub .., nullary_bufs_sub .., unary_bufs_sub .., binary_bufs_sub .., nullary_bufs_sub .., unary_bufs_sub .., unary_bufs_sub .., unary_bufs_sub .., binary_bufs_sub .., reshape_bufs_sub ..⟩

/-- The row numbers, and the expanded list: eight rows for each. -/
def listI : S16384.Idx → BitVec 32 := fun i => lit0 (S16384.rowMajor i)
def listB : S131072.Idx → BitVec 32 :=
  shapeCast S131072 (addi (broadcastInDim S16384x8 ![0, 1] bcast_S16384x1_S16384x8_0_1
      (muli (broadcastInDim S16384x1 ![0] bcast_S16384_S16384x1_0 listI) (broadcastInDim S16384x1 ![] bcast_S_S16384x1 (constantI S_ 32 8#32))))
    (broadcastInDim S16384x8 ![0, 1] bcast_S1x8_S16384x8_0_1 (broadcastInDim S1x8 ![1] bcast_S8_S1x8_1 (iotaInDim S8 32 0)))) shapeCasts_S16384x8_S131072

variable (m : (ℓ : Loc nD τ sig) → Buf (Elt F) ℓ) (ρ : Dev nD → PrngReg)

abbrev argLoc (d : Dev nD) : Loc nD τ sig := (SparseCore.T d).loc main_arg0
abbrev resLoc (d : Dev nD) : Loc nD τ sig := (SparseCore.T d).loc main_v11

/-- The table, the output's rows at launch, and the result. -/
def table (d : Dev nD) : S131072x2x128.Idx → Elt F .f32 :=
  shapeCast S131072x2x128 (m (argLoc d) : S4x4096x2048.Idx → Elt F .f32) shapeCasts_S4x4096x2048_S131072x2x128
def rows₀ (d : Dev nD) : S131072x2x128.Idx → Elt F .f32 := m (outLoc d)
def result (d : Dev nD) : S4x4096x2048.Idx → Elt F .f32 :=
  shapeCast S4x4096x2048 (G (table m d) listB) shapeCasts_S131072x2x128_S4x4096x2048

/-- The device's arrays at launch, and as the call finds and leaves them. -/
def V0 (d : Dev nD) : Valuation τ sig (Elt F) := fun b => m (d, b)
def V1 (d : Dev nD) : Valuation τ sig (Elt F) := after pre (V0 m d)
def V2 (d : Dev nD) : Valuation τ sig (Elt F) := Function.update (V1 m d) (Proc.devRef .tc main_v10) (G (table m d) listB : S131072x2x128.Idx → Elt F .f32)

theorem V1_tab (d : Dev nD) : V1 m d (Proc.devRef .tc main_v0) = table m d := by unfold V1; after_results <;> rfl
theorem V1_idx (d : Dev nD) : V1 m d (Proc.devRef .tc main_c) = (listI : S16384.Idx → BitVec 32) := by unfold V1; after_results <;> rfl
theorem V1_ib (d : Dev nD) : V1 m d (Proc.devRef .tc main_v9) = (listB : S131072.Idx → BitVec 32) := by unfold V1; after_results <;> rfl
theorem V1_out (d : Dev nD) : V1 m d (Proc.devRef .tc main_v10) = rows₀ m d := by unfold V1; after_results <;> rfl
theorem V1_arg (d : Dev nD) : V1 m d (Proc.devRef .tc main_arg0) = m (argLoc d) := by unfold V1; after_results <;> rfl

/-- What the call reads and writes. -/
def T4 : Finset (DevRef τ sig) := {Proc.devRef .tc main_v0, Proc.devRef .tc main_c, Proc.devRef .tc main_v9, Proc.devRef .tc main_v10}
theorem T4_sub : T4 ⊆ tcRefs τ sig := by decide

def Ops (d : Dev nD) (f : S131072x2x128.Idx → Elt F .f32) : sProp 𝕄 :=
  iprop((tabLoc d ↦{fullShare} (table m d : Buf (Elt F) (tabLoc d))) ∗ (idxLoc d ↦{fullShare} (listI : Buf (Elt F) (idxLoc d)))
    ∗ (ibLoc d ↦{fullShare} (listB : Buf (Elt F) (ibLoc d))) ∗ outLoc d ↦{fullShare} (f : Buf (Elt F) (outLoc d)))

theorem held_T4 (d : Dev nD) (V : Valuation τ sig (Elt F)) (f : S131072x2x128.Idx → Elt F .f32) (h0 : V (Proc.devRef .tc main_v0) = table m d)
    (h1 : V (Proc.devRef .tc main_c) = (listI : S16384.Idx → BitVec 32)) (h2 : V (Proc.devRef .tc main_v9) = (listB : S131072.Idx → BitVec 32))
    (h3 : V (Proc.devRef .tc main_v10) = f) : (held (SparseCore.T d) T4 V : sProp 𝕄) = Ops m d f := by
  unfold held T4 Ops
  rw [SparseCore.bigSep_insert' (by decide), SparseCore.bigSep_insert' (by decide), SparseCore.bigSep_insert' (by decide), bigSep_singleton, h0, h1, h2, h3]

theorem before (d : Dev nD) : (held (SparseCore.T d) (tcRefs τ sig) (V1 m d) : sProp 𝕄)
    = iprop(Ops m d (rows₀ m d) ∗ held (SparseCore.T d) (tcRefs τ sig \ T4) (V1 m d)) := by
  rw [held_sub_split (SparseCore.T d) T4_sub, held_T4 m d _ _ (V1_tab m d) (V1_idx m d) (V1_ib m d) (V1_out m d)]

theorem behind (d : Dev nD) : iprop(Ops m d (G (table m d) listB) ∗ held (SparseCore.T d) (tcRefs τ sig \ T4) (V1 m d))
    = (held (SparseCore.T d) (tcRefs τ sig) (V2 m d) : sProp 𝕄) := by
  rw [held_sub_split (SparseCore.T d) T4_sub, held_T4 m d (V2 m d) (G (table m d) listB)
    ((Function.update_of_ne (by decide) _ _).trans (V1_tab m d)) ((Function.update_of_ne (by decide) _ _).trans (V1_idx m d))
    ((Function.update_of_ne (by decide) _ _).trans (V1_ib m d)) (Function.update_self _ _ _)]
  refine congrArg (fun X : sProp 𝕄 => iprop(Ops m d (G (table m d) listB) ∗ X)) (held_congr _ fun b hb => ?_)
  refine (Function.update_of_ne (fun e => ?_) _ _).symm
  subst e
  exact (Finset.mem_sdiff.mp hb).2 (by decide)

theorem unscoped_held (d : Dev nD) : (unscopedBufs d (fun b => m ((SparseCore.T d).loc b)) : sProp 𝕄) = held (SparseCore.T d) (tcRefs τ sig) (V0 m d) := by
  unfold unscopedBufs held tcRefs
  rw [show (Finset.univ.filter fun b : Ref sig .tc => ¬ b.isScoped) = Finset.univ by decide, bigSep_map]
  rfl

/-! ## The two SparseCores' operands are the call's -/

theorem cores (d : Dev nD) (f : S131072x2x128.Idx → Elt F .f32) :
    (bigSep Finset.univ fun c : Fin 2 => Core (table m) listI listB d c f) = Ops m d f := by
  unfold Core Ops
  rw [bigSep_sep', bigSep_sep', bigSep_sep',
    pointsTo_piecesOf (ℓ := tabLoc d) (Val := Elt F) Finset.univ (table m d) (o := 2) (by decide) fullShare,
    pointsTo_piecesOf (ℓ := idxLoc d) (Val := Elt F) Finset.univ listI (o := 2) (by decide) fullShare,
    pointsTo_piecesOf (ℓ := ibLoc d) (Val := Elt F) Finset.univ listB (o := 2) (by decide) fullShare,
    ← pointsTo_biUnion (ℓ := outLoc d) (Val := Elt F) Finset.univ coreRows coreRows_disjoint, coreRows_cover]

abbrev Pm : (K (F := F)).Pay (nD := nD) (Val := Elt F) (Name := ℕ) (U := UU) := P (table m) (rows₀ m) listI listB

theorem st_eq (d : Dev nD) : (bigSep Finset.univ fun c : Fin ((K (F := F)).nCore 0) => (Pm m).st 0 d c) = Ops m d (rows₀ m d) := cores m d _
theorem dn_eq (d : Dev nD) : (bigSep Finset.univ fun c : Fin ((K (F := F)).nCore 0) => (Pm m).dn 0 d c) = Ops m d (G (table m d) listB) := cores m d _

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## @main -/

/-- What @main ends with: the argument as it was, and the result. -/
def T2 : Finset (DevRef τ sig) := {Proc.devRef .tc main_arg0, Proc.devRef .tc main_v11}
theorem T2_sub : T2 ⊆ tcRefs τ sig := by decide

abbrev FIN (d : Dev nD) : sProp 𝕄 :=
  iprop((argLoc d ↦{fullShare} m (argLoc d)) ∗ resLoc d ↦{fullShare} (result m d : Buf (Elt F) (resLoc d)))

theorem end_arg (d : Dev nD) : (post (F := F)).result (V2 m d) (Proc.devRef .tc main_arg0) = m (argLoc d) := by
  unfold post
  rw [StableHlo.reshape_result_ne]
  rotate_left
  · decide
  exact (Function.update_of_ne (by decide) _ _).trans (V1_arg m d)
theorem end_res (d : Dev nD) : (post (F := F)).result (V2 m d) (Proc.devRef .tc main_v11) = result m d := by
  unfold post
  rw [StableHlo.reshape_result, show V2 m d (Proc.devRef .tc main_v10) = (G (table m d) listB : S131072x2x128.Idx → Elt F .f32) from Function.update_self _ _ _]
  rfl

theorem ends (d : Dev nD) : (held (SparseCore.T d) (tcRefs τ sig) ((post (F := F)).result (V2 m d)) : sProp 𝕄) ⊢ FIN m d := by
  rw [held_sub_split (SparseCore.T d) T2_sub]
  refine sep_elim_left.trans (Entails.of_eq ?_)
  unfold held T2
  rw [SparseCore.bigSep_insert' (by decide), bigSep_singleton, end_arg, end_res]

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ pre (List.forall_iff_forall_mem.mp pre_sub)
    (by intro _ h; (repeat (cases h with | head => rfl | tail _ h => ?_)); exact nomatch h) (V0 m d)) $$ [Hb Hheld]
  · isplitl [Hb]; · iexact Hb
    iexact Hheld
  iintro ⟨Hb, Hheld⟩
  ihave Hheld := (show (held d.tc (tcRefs τ sig) (after pre (V0 m d)) : sProp 𝕄) ⊢ iprop(Ops m d (rows₀ m d) ∗ held (SparseCore.T d) (tcRefs τ sig \ T4) (V1 m d)) from Entails.of_eq (before m d)) $$ Hheld
  icases Hheld with ⟨Hops, Hrest⟩
  rw [wp_bind]
  iapply ((K (F := F)).wp_run (D (F := F)) 𝒱 (EH := EH) (P := Pm m) κ d 0) $$ [Hst Hops Hrest Hb Hts]
  isplitr; · iexact Hctx
  isplitl [Hst]; · iexact Hst
  isplitl [Hops]
  · iapply (Entails.of_eq (st_eq m d).symm) $$ Hops
  iintro ⟨Hst, Hdn⟩
  ihave Hops := (Entails.of_eq (dn_eq m d)) $$ Hdn
  ihave Hheld := (Entails.of_eq (behind m d)) $$ [Hops Hrest]
  · isplitl [Hops]; · iexact Hops
    iexact Hrest
  iapply (wp_hlo_within 𝒱 (SparseCore.T d) none Set.univ (op := post) (S := tcRefs τ sig) (reshape_bufs_sub ..) (V := V2 m d)) $$ [Hb Hheld]
  · isplitl [Hb]; · iexact Hb
    iexact Hheld
  iintro ⟨Hb, Hheld⟩
  rw [wp_ret]; imodintro
  isplitl [Hst]; · iexact Hst
  isplitl [Hheld]
  · iapply (ends m d) $$ Hheld
  isplitl [Hb] <;> iassumption

def fq (d : Dev nD) (s' : Phys nD τ sig (Elt F)) : Prop := s'.mem.mem (argLoc d) = m (argLoc d) ∧ s'.mem.mem (resLoc d) = result m d

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (SI_pointsTo_agree (st := s') (ℓ := resLoc d) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop :=
  fun r => (∀ d : Dev nD, r.2.mem (argLoc d) = m (argLoc d) ∧ r.2.mem (resLoc d) = result m d) ∧ r.2.sem = fun _ => 0

/-- Every weakly fair execution ends with the argument as it was, the result the gathered rows, and every semaphore at zero. -/
theorem run_main [∀ e, Nonempty (Elt F e)] (hL : Lists listI listB) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (table m) (rows₀ m) listI listB facts hL)
    (fun q _ => match q with | 0 => vecSplit (table m) (rows₀ m) listI listB)
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Lits.lean ====
/-
  What is checked of the two literals, entry by entry: the kernel's list repeats the reference's once for each batch, each time 4096 further on.
-/
module

public import proofs.«01_k».proof.Defs

@[expose] public section

noncomputable section

namespace Cert.Proof.Gather

/-- Entry `n` of the kernel's list is the reference's entry `n % 4096`, moved to batch `n / 4096`; and that names a row. -/
def good (n : ℕ) : Bool :=
  (Cert.KernelIdeal.lit0t n).toNat == 4096 * (n / 4096) + (Cert.ReferenceIdeal.lit0t (n % 4096)).toNat && (Cert.ReferenceIdeal.lit0t (n % 4096)).toNat.blt 4096

/-- The thousand and twenty-four entries from `1024 * g`. -/
def goodFrom (g : ℕ) : Bool := (List.range 8).all fun b => (List.range 128).all fun i => good (1024 * g + 128 * b + i)

theorem good_of {g : ℕ} (h : goodFrom g = true) {n : ℕ} (h0 : 1024 * g ≤ n) (h1 : n < 1024 * g + 1024) : good n = true := by
  unfold goodFrom at h
  have h2 := List.all_eq_true.mp (List.all_eq_true.mp h ((n - 1024 * g) / 128) (List.mem_range.mpr (by omega))) ((n - 1024 * g) % 128) (List.mem_range.mpr (Nat.mod_lt _ (by decide)))
  rwa [show 1024 * g + 128 * ((n - 1024 * g) / 128) + (n - 1024 * g) % 128 = n by omega] at h2

end Cert.Proof.Gather

end
-- ==== Proof.Batch0.lean ====
/-
  Batch 0 of the kernel's list, checked.
-/
module

public import proofs.«01_k».proof.Proof.Lits

@[expose] public section

noncomputable section

namespace Cert.Proof.Gather

set_option maxRecDepth 100000 in
theorem batch0_0 : goodFrom 0 = true := by decide +kernel

set_option maxRecDepth 100000 in
theorem batch0_1 : goodFrom 1 = true := by decide +kernel

set_option maxRecDepth 100000 in
theorem batch0_2 : goodFrom 2 = true := by decide +kernel

set_option maxRecDepth 100000 in
theorem batch0_3 : goodFrom 3 = true := by decide +kernel

end Cert.Proof.Gather

end
-- ==== Proof.Batch1.lean ====
/-
  Batch 1 of the kernel's list, checked.
-/
module

public import proofs.«01_k».proof.Proof.Lits

@[expose] public section

noncomputable section

namespace Cert.Proof.Gather

set_option maxRecDepth 100000 in
theorem batch1_0 : goodFrom 4 = true := by decide +kernel

set_option maxRecDepth 100000 in
theorem batch1_1 : goodFrom 5 = true := by decide +kernel

set_option maxRecDepth 100000 in
theorem batch1_2 : goodFrom 6 = true := by decide +kernel

set_option maxRecDepth 100000 in
theorem batch1_3 : goodFrom 7 = true := by decide +kernel

end Cert.Proof.Gather

end
-- ==== Proof.Batch2.lean ====
/-
  Batch 2 of the kernel's list, checked.
-/
module

public import proofs.«01_k».proof.Proof.Lits

@[expose] public section

noncomputable section

namespace Cert.Proof.Gather

set_option maxRecDepth 100000 in
theorem batch2_0 : goodFrom 8 = true := by decide +kernel

set_option maxRecDepth 100000 in
theorem batch2_1 : goodFrom 9 = true := by decide +kernel

set_option maxRecDepth 100000 in
theorem batch2_2 : goodFrom 10 = true := by decide +kernel

set_option maxRecDepth 100000 in
theorem batch2_3 : goodFrom 11 = true := by decide +kernel

end Cert.Proof.Gather

end
-- ==== Proof.Batch3.lean ====
/-
  Batch 3 of the kernel's list, checked.
-/
module

public import proofs.«01_k».proof.Proof.Lits

@[expose] public section

noncomputable section

namespace Cert.Proof.Gather

set_option maxRecDepth 100000 in
theorem batch3_0 : goodFrom 12 = true := by decide +kernel

set_option maxRecDepth 100000 in
theorem batch3_1 : goodFrom 13 = true := by decide +kernel

set_option maxRecDepth 100000 in
theorem batch3_2 : goodFrom 14 = true := by decide +kernel

set_option maxRecDepth 100000 in
theorem batch3_3 : goodFrom 15 = true := by decide +kernel

end Cert.Proof.Gather

end
-- ==== Proof.Lists.lean ====
/-
  The two lists the launch hands the kernel: every entry of the first names a row, and the second spells each row out as eight.
-/
module

public import proofs.«01_k».proof.Proof.Launch
public import proofs.«01_k».proof.Proof.Batch0
public import proofs.«01_k».proof.Proof.Batch1
public import proofs.«01_k».proof.Proof.Batch2
public import proofs.«01_k».proof.Proof.Batch3

@[expose] public section

noncomputable section

namespace Cert.Proof.Gather

open Cert.KernelIdeal Cert.KernelIdeal.Gen
open Idealize.ShloMosaic

/-! ## The literals -/

theorem good_all (n : ℕ) (hn : n < 16384) : good n = true := by
  have hg : n / 1024 < 16 := by omega
  have h0 : 1024 * (n / 1024) ≤ n := by omega
  have h1 : n < 1024 * (n / 1024) + 1024 := by omega
  refine good_of (g := n / 1024) ?_ h0 h1
  generalize n / 1024 = g at hg
  have hc : g = 0 ∨ g = 1 ∨ g = 2 ∨ g = 3 ∨ g = 4 ∨ g = 5 ∨ g = 6 ∨ g = 7 ∨ g = 8 ∨ g = 9 ∨ g = 10 ∨ g = 11 ∨ g = 12 ∨ g = 13 ∨ g = 14 ∨ g = 15 := by omega
  rcases hc with h | h | h | h | h | h | h | h | h | h | h | h | h | h | h | h <;> rw [h]
  exacts [batch0_0, batch0_1, batch0_2, batch0_3, batch1_0, batch1_1, batch1_2, batch1_3,
    batch2_0, batch2_1, batch2_2, batch2_3, batch3_0, batch3_1, batch3_2, batch3_3]

/-- The reference's entry `s`, a row of one batch. -/
def rowOf (s : ℕ) : ℕ := (Cert.ReferenceIdeal.lit0t s).toNat

theorem lit_eq (n : ℕ) (hn : n < 16384) : (Cert.KernelIdeal.lit0t n).toNat = 4096 * (n / 4096) + rowOf (n % 4096) := by
  have h := good_all n hn
  unfold good at h
  rw [Bool.and_eq_true] at h
  exact eq_of_beq h.1

theorem rowOf_lt (s : ℕ) (hs : s < 4096) : rowOf s < 4096 := by
  have h := good_all s (by omega)
  unfold good at h
  rw [Bool.and_eq_true, Nat.mod_eq_of_lt hs] at h
  exact Nat.blt_eq.mp h.2

theorem listI_toNat (i : S16384.Idx) : (listI i).toNat = 4096 * ((i 0).val / 4096) + rowOf ((i 0).val % 4096) := by
  have e : listI i = Cert.KernelIdeal.lit0t (S16384.rowMajor i).val := rfl
  rw [e, show (S16384.rowMajor i).val = (i 0).val from Shape.rowMajor_val_one i]
  exact lit_eq _ (i 0).isLt

theorem listI_lt (i : S16384.Idx) : (listI i).toNat < 16384 := by
  have h0 : (i 0).val < 16384 := (i 0).isLt
  have h1 := rowOf_lt ((i 0).val % 4096) (Nat.mod_lt _ (by decide))
  rw [listI_toNat]; omega

/-! ## The expanded list -/

/-- Eight times each entry, and the numbers below eight added. -/
def expandOf (f : S16384.Idx → BitVec 32) : S131072.Idx → BitVec 32 :=
  shapeCast S131072 (addi (broadcastInDim S16384x8 ![0, 1] bcast_S16384x1_S16384x8_0_1 (muli (broadcastInDim S16384x1 ![0] bcast_S16384_S16384x1_0 f) (broadcastInDim S16384x1 ![] bcast_S_S16384x1 (constantI S_ 32 8#32)))) (broadcastInDim S16384x8 ![0, 1] bcast_S1x8_S16384x8_0_1 (broadcastInDim S1x8 ![1] bcast_S8_S1x8_1 (iotaInDim S8 32 0)))) shapeCasts_S16384x8_S131072

theorem listB_eq : listB = expandOf listI := rfl

abbrev at2 {n m : ℕ} [NeZero n] [NeZero m] (a b : ℕ) : (⟨2, ![n, m]⟩ : Shape).Idx :=
  fun k => match k with | 0 => Fin.ofNat n a | 1 => Fin.ofNat m b

theorem expandOf_apply (f : S16384.Idx → BitVec 32) (k r : ℕ) (hk : k < 16384) (hr : r < 8) :
    expandOf f (at1 (8 * k + r)) = f (at1 k) * 8#32 + BitVec.ofNat 32 r := by
  have hk' : k % 16384 = k := Nat.mod_eq_of_lt hk
  have hr' : r % 8 = r := Nat.mod_eq_of_lt hr
  unfold expandOf
  rw [shapeCast_apply _ _ _ (at2 k r) (by
    rw [show (S16384x8.rowMajor (at2 k r)).val = _ from Shape.rowMajor_val_two _,
      show (S131072.rowMajor (at1 (8 * k + r))).val = _ from Shape.rowMajor_val_one _]
    show k % 16384 * 8 + r % 8 = (8 * k + r) % 131072
    omega)]
  show IntOp.addi (broadcastInDim (s := S16384x1) S16384x8 ![0, 1] bcast_S16384x1_S16384x8_0_1 _ (at2 k r)) (broadcastInDim (s := S1x8) S16384x8 ![0, 1] bcast_S1x8_S16384x8_0_1 _ (at2 k r)) = _
  rw [broadcastInDim_apply _ _ _ _ (at2 k 0) (fun a => by match a with | 0 => rfl | 1 => rfl),
    broadcastInDim_apply _ _ _ _ (at2 0 r) (fun a => by match a with | 0 => rfl | 1 => rfl),
    broadcastInDim_apply _ _ _ _ (at1 r) (fun a => by match a with | 0 => rfl)]
  show IntOp.addi (IntOp.muli (broadcastInDim S16384x1 ![0] bcast_S16384_S16384x1_0 f (at2 k 0)) 8#32) (BitVec.ofNat 32 (r % 8)) = _
  rw [broadcastInDim_apply _ _ _ _ (at1 k) (fun a => by match a with | 0 => rfl), hr']
  rfl

theorem expandOf_toNat (f : S16384.Idx → BitVec 32) (hf : ∀ i, (f i).toNat < 16384) (k r : ℕ) (hk : k < 16384) (hr : r < 8) :
    (expandOf f (at1 (8 * k + r))).toNat = 8 * (f (at1 k)).toNat + r := by
  have h := hf (at1 k)
  rw [expandOf_apply f k r hk hr, BitVec.toNat_add, BitVec.toNat_mul, BitVec.toNat_ofNat, BitVec.toNat_ofNat]
  omega

/-- The two lists are what the kernel's steps ask of them. -/
theorem lists_ok : Lists listI listB where
  lt k := listI_lt k
  expand k r hk hr := by rw [listB_eq]; exact expandOf_toNat listI listI_lt k r hk hr

end Cert.Proof.Gather

end
-- ==== Proof.Values.lean ====
/-
  The two results, read at an index: each is the argument's row `rowOf s` of the same batch.
-/
module

public import proofs.«01_k».proof.Proof.Lists
public import proofs.«01_k».proof.Proof.Gen.ReferenceIdeal.Run

@[expose] public section

noncomputable section

namespace Cert.Proof.Gather

open Idealize.ShloMosaic

/-! ## The kernel's result -/

section Kernel

open Cert.KernelIdeal Cert.KernelIdeal.Gen

variable {F : FTy → Type} [FloatOps F]

/-- Cast to rows of 256, gathered by the expanded list and cast back, an array's row `s` is its row `rowOf s`. -/
theorem gathered (A : S4x4096x2048.Idx → Elt F .f32) (x : S4x4096x2048.Idx) :
    shapeCast S4x4096x2048 (G (shapeCast S131072x2x128 A shapeCasts_S4x4096x2048_S131072x2x128) listB) shapeCasts_S131072x2x128_S4x4096x2048 x
      = A (at3 (x 0).val (rowOf (x 1).val) (x 2).val) := by
  have hb : (x 0).val < 4 := (x 0).isLt
  have hs : (x 1).val < 4096 := (x 1).isLt
  have hc : (x 2).val < 2048 := (x 2).isLt
  have hr := rowOf_lt _ hs
  have hx : (S4x4096x2048.rowMajor x).val = ((x 0).val * 4096 + (x 1).val) * 2048 + (x 2).val := Shape.rowMajor_val_three x
  generalize (x 0).val = b at *
  generalize (x 1).val = s at *
  generalize (x 2).val = c at *
  have hB : (listB (at1 (8 * (4096 * b + s) + c / 256))).toNat = 8 * (4096 * b + rowOf s) + c / 256 := by
    rw [lists_ok.expand (4096 * b + s) (c / 256) (by omega) (by omega), listI_toNat]
    have e : ((at1 (4096 * b + s) : S16384.Idx) 0).val = 4096 * b + s := Nat.mod_eq_of_lt (by omega)
    rw [e, show (4096 * b + s) / 4096 = b by omega, show (4096 * b + s) % 4096 = s by omega]
  rw [shapeCast_apply _ _ x (at3 (8 * (4096 * b + s) + c / 256) (c % 256 / 128) (c % 128)) (by
    rw [hx, show (S131072x2x128.rowMajor (at3 (8 * (4096 * b + s) + c / 256) (c % 256 / 128) (c % 128))).val = _ from Shape.rowMajor_val_three _]
    show ((8 * (4096 * b + s) + c / 256) % 131072 * 2 + c % 256 / 128 % 2) * 128 + c % 128 % 128 = _
    omega)]
  unfold G
  have e0 : ((at3 (8 * (4096 * b + s) + c / 256) (c % 256 / 128) (c % 128) : S131072x2x128.Idx) 0).val = 8 * (4096 * b + s) + c / 256 := Nat.mod_eq_of_lt (by omega)
  have e1 : ((at3 (8 * (4096 * b + s) + c / 256) (c % 256 / 128) (c % 128) : S131072x2x128.Idx) 1).val = c % 256 / 128 := Nat.mod_eq_of_lt (by omega)
  have e2 : ((at3 (8 * (4096 * b + s) + c / 256) (c % 256 / 128) (c % 128) : S131072x2x128.Idx) 2).val = c % 128 := Nat.mod_eq_of_lt (by omega)
  rw [e0, e1, e2, hB]
  refine shapeCast_apply _ _ _ _ ?_
  rw [show (S131072x2x128.rowMajor (at3 (8 * (4096 * b + rowOf s) + c / 256) (c % 256 / 128) (c % 128))).val = _ from Shape.rowMajor_val_three _,
    show (S4x4096x2048.rowMajor (at3 b (rowOf s) c)).val = _ from Shape.rowMajor_val_three _]
  show (b % 4 * 4096 + rowOf s % 4096) * 2048 + c % 2048 = ((8 * (4096 * b + rowOf s) + c / 256) % 131072 * 2 + c % 256 / 128 % 2) * 128 + c % 128 % 128
  omega

theorem result_apply (m : (ℓ : Loc nD τ sig) → Buf (Elt F) ℓ) (d : Dev nD) (x : S4x4096x2048.Idx) :
    result m d x = m (argLoc d) (at3 (x 0).val (rowOf (x 1).val) (x 2).val) := gathered (m (argLoc d)) x

end Kernel

/-! ## The reference's result -/

section Reference

open Cert.ReferenceIdeal Cert.ReferenceIdeal.Gen

variable {F : FTy → Type} [FloatOps F]

/-- The list the reference takes rows by. -/
def listR : S4096.Idx → BitVec 32 := fun i => lit0 (S4096.rowMajor i)

theorem listR_toNat (i : S4096.Idx) : (listR i).toNat = rowOf (i 0).val := by
  have e : listR i = lit0t (S4096.rowMajor i).val := rfl
  rw [e, show (S4096.rowMajor i).val = (i 0).val from Shape.rowMajor_val_one i, rowOf]

theorem listR_lt (i : S4096.Idx) : (listR i).toNat < 4096 := by
  rw [listR_toNat]; exact rowOf_lt _ (i 0).isLt

/-- Row numbers counted from the end where they are negative, as the starts of the slices taken. -/
def startsOf (f : S4096.Idx → BitVec 32) : S4096x1.Idx → BitVec 32 :=
  broadcastInDim S4096x1 ![0] bcast_S4096_S4096x1_0 (select (cmpi .slt f (broadcastInDim S4096 ![] bcast_S_S4096 (constantI S_ 32 0#32))) (addi f (broadcastInDim S4096 ![] bcast_S_S4096 (constantI S_ 32 4096#32))) f)

/-- The bit that says a start is in range, one for each row. -/
def inRange (g : S4096x1.Idx → BitVec 32) : S4096.Idx → BitVec 1 :=
  Host.reduce IntOp.andi (andi (cmpi .sge g (broadcastInDim S4096x1 ![] bcast_S_S4096x1 (constantI S_ 32 0#32))) (cmpi .sle g (broadcastInDim S4096x1 ![0, 1] bcast_S1x1_S4096x1_0_1 (broadcastInDim S1x1 ![1] bcast_S1_S1x1_1 (constantI S1 32 4095#32))))) (constantI S_ 1 1#1) reducesTo_S4096x1_S4096_d1 h_S_

/-- The rows taken along the second axis, and the constant where a row number is out of range. -/
def takenBy (f : S4096.Idx → BitVec 32) (A : S4x4096x2048.Idx → Elt F .f32) : S4x4096x2048.Idx → Elt F .f32 :=
  select (broadcastInDim S4x4096x2048 ![1] bcast_S4096_S4x4096x2048_1 (inRange (startsOf f))) (Host.gather gather_S4x4096x2048_S4096x1_S4x4096x2048_02_1_n_n_1_1_412048 A (startsOf f)) (broadcastInDim S4x4096x2048 ![] bcast_S_S4x4096x2048 (constant S_ .f32 0x7FC00000#32))

section Small

variable (v : BitVec 32) (hv : v.toNat < 4096)
include hv

theorem toInt_small : v.toInt = v.toNat := BitVec.toInt_eq_toNat_of_lt (by omega)

theorem slt_small : IntOp.cmpi .slt v 0#32 = 0#1 := by
  have h : v.slt 0#32 = false := by
    rw [BitVec.slt, decide_eq_false_iff_not, toInt_small v hv, show (0#32 : BitVec 32).toInt = 0 from rfl]; omega
  show BitVec.ofBool (v.slt 0#32) = _
  rw [h]; rfl

theorem sge_small : IntOp.cmpi .sge v 0#32 = 1#1 := by
  have h : (0#32 : BitVec 32).sle v = true := by
    rw [BitVec.sle, decide_eq_true_eq, toInt_small v hv, show (0#32 : BitVec 32).toInt = 0 from rfl]; omega
  show BitVec.ofBool ((0#32 : BitVec 32).sle v) = _
  rw [h]; rfl

theorem sle_small : IntOp.cmpi .sle v 4095#32 = 1#1 := by
  have h : v.sle 4095#32 = true := by
    rw [BitVec.sle, decide_eq_true_eq, toInt_small v hv, show (4095#32 : BitVec 32).toInt = 4095 from rfl]; omega
  show BitVec.ofBool (v.sle 4095#32) = _
  rw [h]; rfl

end Small

variable (f : S4096.Idx → BitVec 32) (hf : ∀ i, (f i).toNat < 4096)

include hf

theorem startsOf_apply (j : S4096x1.Idx) : startsOf f j = f (at1 (j 0).val) := by
  unfold startsOf
  rw [broadcastInDim_apply _ _ _ j (at1 (j 0).val) (fun a => by match a with | 0 => exact Nat.mod_eq_of_lt (j 0).isLt)]
  show Scalar.select (IntOp.cmpi .slt (f (at1 (j 0).val)) 0#32) _ _ = _
  rw [slt_small _ (hf _)]; rfl

theorem inRange_apply (i : S4096.Idx) : inRange (startsOf f) i = 1#1 := by
  unfold inRange Host.reduce
  have e : andi (cmpi .sge (startsOf f) (broadcastInDim S4096x1 ![] bcast_S_S4096x1 (constantI S_ 32 0#32))) (cmpi .sle (startsOf f) (broadcastInDim S4096x1 ![0, 1] bcast_S1x1_S4096x1_0_1 (broadcastInDim S1x1 ![1] bcast_S1_S1x1_1 (constantI S1 32 4095#32)))) = fun _ => 1#1 := by
    funext j
    show IntOp.andi (IntOp.cmpi .sge (startsOf f j) 0#32) (IntOp.cmpi .sle (startsOf f j) 4095#32) = _
    rw [startsOf_apply f hf, sge_small _ (hf _), sle_small _ (hf _)]; rfl
  rw [e]
  show List.foldl _ 1#1 _ = _
  generalize (List.filter _ _) = l
  induction l with
  | nil => rfl
  | cons a l ih =>
    rw [List.foldl_cons, show IntOp.andi (1#1 : BitVec 1) ((fun _ => 1#1 : S4096x1.Idx → BitVec 1) (S4096x1.rowMajor.symm a)) = 1#1 from (by decide : IntOp.andi (1#1 : BitVec 1) 1#1 = 1#1)]
    exact ih

theorem rows_apply (A : S4x4096x2048.Idx → Elt F .f32) (x : S4x4096x2048.Idx) :
    Host.gather gather_S4x4096x2048_S4096x1_S4x4096x2048_02_1_n_n_1_1_412048 A (startsOf f) x
      = A (at3 (x 0).val (f (at1 (x 1).val)).toNat (x 2).val) := by
  unfold Host.gather
  refine congrArg A (at3_eq _ _ _ _ ?_ ?_ ?_)
  · show 0 + 0 + (x 0).val = _
    omega
  · show min (startsOf f _).toInt.toNat 4095 + 0 + 0 = _
    rw [startsOf_apply f hf, toInt_small _ (hf _)]
    have h := hf (at1 (x 1).val)
    show min (f (at1 (x 1).val)).toNat 4095 + 0 + 0 = _
    omega
  · show 0 + 0 + (x 2).val = _
    omega

theorem takenBy_apply (A : S4x4096x2048.Idx → Elt F .f32) (x : S4x4096x2048.Idx) :
    takenBy f A x = A (at3 (x 0).val (f (at1 (x 1).val)).toNat (x 2).val) := by
  show Scalar.select (broadcastInDim S4x4096x2048 ![1] bcast_S4096_S4x4096x2048_1 (inRange (startsOf f)) x) (Host.gather gather_S4x4096x2048_S4096x1_S4x4096x2048_02_1_n_n_1_1_412048 A (startsOf f) x) _ = _
  have e : broadcastInDim S4x4096x2048 ![1] bcast_S4096_S4x4096x2048_1 (inRange (startsOf f)) x = 1#1 := inRange_apply f hf _
  rw [e, rows_apply f hf]; rfl

omit hf in
/-- What the reference takes is what the kernel gathers. -/
theorem takenBy_list (A : S4x4096x2048.Idx → Elt F .f32) :
    takenBy listR A = shapeCast Cert.KernelIdeal.S4x4096x2048 (G (shapeCast Cert.KernelIdeal.S131072x2x128 A Cert.KernelIdeal.Gen.shapeCasts_S4x4096x2048_S131072x2x128) listB) Cert.KernelIdeal.Gen.shapeCasts_S131072x2x128_S4x4096x2048 := by
  funext x
  refine (takenBy_apply listR listR_lt A x).trans (Eq.trans ?_ (gathered A x).symm)
  have e : (listR (at1 (x 1).val)).toNat = rowOf (x 1).val :=
    (listR_toNat _).trans (congrArg rowOf (Nat.mod_eq_of_lt (x 1).isLt))
  exact congrArg (fun n => A (at3 (x 0).val n (x 2).val)) e

end Reference

end Cert.Proof.Gather

end
-- ==== Proof.lean ====
/-
  The five claims: the three programs' frames, that the two kernels' programs are the same, and that over the extended
  reals the kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem
open Cert.Proof.Gather

theorem frame_ideal : Cert.quiescent_KernelIdeal := fun m ρ _ =>
  (θ_run Cert.KernelIdeal.defs _ _).mono (fun _ h => ⟨fun c => (h.1 c).1, h.2⟩) (run_main (F := Ideal) m ρ lists_ok)

set_option maxHeartbeats 2000000 in
theorem frame_kernel : Cert.quiescent_Kernel := fun m ρ _ =>
  (θ_run Cert.KernelIdeal.defs _ _).mono (fun _ h => ⟨fun c => (h.1 c).1, h.2⟩) (run_main (F := Bits) m ρ lists_ok)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem same_rows : Cert.algebraic_KernelIdeal_ReferenceIdeal := fun m ρ m' ρ' _ hm =>
  ⟨fun d => result (F := Ideal) m d,
    (θ_run Cert.KernelIdeal.defs _ _).mono (fun _ h c => ⟨(h.1 c).2, (h.1 c).1⟩) (run_main (F := Ideal) m ρ lists_ok),
    (θ_run Cert.ReferenceIdeal.defs _ _).mono
      (fun _ h c => ⟨(h c).1.trans ((congrArg (takenBy (F := Ideal) listR) (hm c)).trans (takenBy_list _)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, same_rows⟩

end Cert.Proof

end
